-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv_dim" .f32 0x3BBA2E8C#32 ((1 / 176 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x50x11 : Shape := ⟨3, ![1024, 50, 11]⟩
abbrev S1024x50x8 : Shape := ⟨3, ![1024, 50, 8]⟩
abbrev S15x32 : Shape := ⟨2, ![15, 32]⟩
abbrev S21x32 : Shape := ⟨2, ![21, 32]⟩
abbrev S11x16 : Shape := ⟨2, ![11, 16]⟩
abbrev S9x16 : Shape := ⟨2, ![9, 16]⟩
abbrev S10x16 : Shape := ⟨2, ![10, 16]⟩
abbrev S2x32 : Shape := ⟨2, ![2, 32]⟩
abbrev S32x32 : Shape := ⟨2, ![32, 32]⟩
abbrev S32 : Shape := ⟨1, ![32]⟩
abbrev S32x6 : Shape := ⟨2, ![32, 6]⟩
abbrev S176 : Shape := ⟨1, ![176]⟩
abbrev S512x176 : Shape := ⟨2, ![512, 176]⟩
abbrev S512 : Shape := ⟨1, ![512]⟩
abbrev S1024x50x6 : Shape := ⟨3, ![1024, 50, 6]⟩
abbrev S_ : Shape := ⟨0, ![]⟩
abbrev S1x32 : Shape := ⟨2, ![1, 32]⟩

class Facts : Prop where
  slices_S1024x50x11_S1024x50x6_0_0_5 : S1024x50x11.Slices ![0, 0, 5] S1024x50x6
  bcast_S_S1024x50x6 : S_.BroadcastsInDim S1024x50x6 (![] : Fin 0 → Fin S1024x50x6.rank)
  reducesTo_S1024x50x6_S_d0_1_2 : S1024x50x6.ReducesTo [0, 1, 2] S_
  h_S_ : 0 < S_.numel
  bcast_S_S15x32 : S_.BroadcastsInDim S15x32 (![] : Fin 0 → Fin S15x32.rank)
  reducesTo_S15x32_S_d0_1 : S15x32.ReducesTo [0, 1] S_
  bcast_S_S21x32 : S_.BroadcastsInDim S21x32 (![] : Fin 0 → Fin S21x32.rank)
  reducesTo_S21x32_S_d0_1 : S21x32.ReducesTo [0, 1] S_
  bcast_S_S11x16 : S_.BroadcastsInDim S11x16 (![] : Fin 0 → Fin S11x16.rank)
  reducesTo_S11x16_S_d0_1 : S11x16.ReducesTo [0, 1] S_
  bcast_S_S9x16 : S_.BroadcastsInDim S9x16 (![] : Fin 0 → Fin S9x16.rank)
  reducesTo_S9x16_S_d0_1 : S9x16.ReducesTo [0, 1] S_
  bcast_S_S10x16 : S_.BroadcastsInDim S10x16 (![] : Fin 0 → Fin S10x16.rank)
  reducesTo_S10x16_S_d0_1 : S10x16.ReducesTo [0, 1] S_
  slices_S2x32_S1x32_1_0 : S2x32.Slices ![1, 0] S1x32
  bcast_S_S1x32 : S_.BroadcastsInDim S1x32 (![] : Fin 0 → Fin S1x32.rank)
  reducesTo_S1x32_S_d0_1 : S1x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x6 : S_.BroadcastsInDim S32x6 (![] : Fin 0 → Fin S32x6.rank)
  reducesTo_S32x6_S_d0_1 : S32x6.ReducesTo [0, 1] S_
  bcast_S_S176 : S_.BroadcastsInDim S176 (![] : Fin 0 → Fin S176.rank)
  reducesTo_S176_S_d0 : S176.ReducesTo [0] S_
  bcast_S_S512x176 : S_.BroadcastsInDim S512x176 (![] : Fin 0 → Fin S512x176.rank)
  reducesTo_S512x176_S_d0_1 : S512x176.ReducesTo [0, 1] S_

variable [Facts]

def fn_part3 {F : FTy → Type} [FloatOps F] (main_arg12 : FVec F S176 .f32) (main_arg14 : FVec F S512x176 .f32) (main_v50 : IVec S_ 1) (main_v51 : FVec F S32 .f32) : IVec S_ 1 :=
  let main_cst_18 : FVec F S_ .f32 := constant S_ .f32 0x7F800000#32
  let main_v52 : FVec F S32 .f32 := broadcastInDim S32 ![] bcast_S_S32 main_cst_18
  let main_v53 : IVec S32 1 := cmpf .olt main_v51 main_v52
  let main_c_19 : IVec S_ 1 := constantI S_ 1 1#1
  let main_v54 : IVec S_ 1 := (fun x v => Host.reduce IntOp.andi x v reducesTo_S32_S_d0 h_S_) main_v53 main_c_19
  let main_v55 : IVec S_ 1 := andi main_v50 main_v54
  let main_v56 : FVec F S176 .f32 := Host.absf main_arg12
  let main_cst_20 : FVec F S_ .f32 := constant S_ .f32 0x7F800000#32
  let main_v57 : FVec F S176 .f32 := broadcastInDim S176 ![] bcast_S_S176 main_cst_20
  let main_v58 : IVec S176 1 := cmpf .olt main_v56 main_v57
  let main_c_21 : IVec S_ 1 := constantI S_ 1 1#1
  let main_v59 : IVec S_ 1 := (fun x v => Host.reduce IntOp.andi x v reducesTo_S176_S_d0 h_S_) main_v58 main_c_21
  let main_v60 : IVec S_ 1 := andi main_v55 main_v59
  let main_v61 : FVec F S512x176 .f32 := Host.absf main_arg14
  let main_cst_22 : FVec F S_ .f32 := constant S_ .f32 0x7F800000#32
  let main_v62 : FVec F S512x176 .f32 := broadcastInDim S512x176 ![] bcast_S_S512x176 main_cst_22
  let main_v63 : IVec S512x176 1 := cmpf .olt main_v61 main_v62
  let main_c_23 : IVec S_ 1 := constantI S_ 1 1#1
  let main_v64 : IVec S_ 1 := (fun x v => Host.reduce IntOp.andi x v reducesTo_S512x176_S_d0_1 h_S_) main_v63 main_c_23
  let main_v65 : IVec S_ 1 := andi main_v60 main_v64
  main_v65

def fn_part2 {F : FTy → Type} [FloatOps F] (main_arg8 : FVec F S32x32 .f32) (main_arg9 : FVec F S32 .f32) (main_arg10 : FVec F S32x6 .f32) (main_arg11 : FVec F S32 .f32) (main_arg12 : FVec F S176 .f32) (main_arg14 : FVec F S512x176 .f32) (main_v29 : IVec S_ 1) (main_v33 : IVec S1x32 1) (main_c_11 : IVec S_ 1) : IVec S_ 1 :=
  let main_v34 : IVec S_ 1 := (fun x v => Host.reduce IntOp.andi x v reducesTo_S1x32_S_d0_1 h_S_) main_v33 main_c_11
  let main_v35 : IVec S_ 1 := andi main_v29 main_v34
  let main_v36 : FVec F S32x32 .f32 := Host.absf main_arg8
  let main_cst_12 : FVec F S_ .f32 := constant S_ .f32 0x7F800000#32
  let main_v37 : FVec F S32x32 .f32 := broadcastInDim S32x32 ![] bcast_S_S32x32 main_cst_12
  let main_v38 : IVec S32x32 1 := cmpf .olt main_v36 main_v37
  let main_c_13 : IVec S_ 1 := constantI S_ 1 1#1
  let main_v39 : IVec S_ 1 := (fun x v => Host.reduce IntOp.andi x v reducesTo_S32x32_S_d0_1 h_S_) main_v38 main_c_13
  let main_v40 : IVec S_ 1 := andi main_v35 main_v39
  let main_v41 : FVec F S32 .f32 := Host.absf main_arg9
  let main_cst_14 : FVec F S_ .f32 := constant S_ .f32 0x7F800000#32
  let main_v42 : FVec F S32 .f32 := broadcastInDim S32 ![] bcast_S_S32 main_cst_14
  let main_v43 : IVec S32 1 := cmpf .olt main_v41 main_v42
  let main_c_15 : IVec S_ 1 := constantI S_ 1 1#1
  let main_v44 : IVec S_ 1 := (fun x v => Host.reduce IntOp.andi x v reducesTo_S32_S_d0 h_S_) main_v43 main_c_15
  let main_v45 : IVec S_ 1 := andi main_v40 main_v44
  let main_v46 : FVec F S32x6 .f32 := Host.absf main_arg10
  let main_cst_16 : FVec F S_ .f32 := constant S_ .f32 0x7F800000#32
  let main_v47 : FVec F S32x6 .f32 := broadcastInDim S32x6 ![] bcast_S_S32x6 main_cst_16
  let main_v48 : IVec S32x6 1 := cmpf .olt main_v46 main_v47
  let main_c_17 : IVec S_ 1 := constantI S_ 1 1#1
  let main_v49 : IVec S_ 1 := (fun x v => Host.reduce IntOp.andi x v reducesTo_S32x6_S_d0_1 h_S_) main_v48 main_c_17
  let main_v50 : IVec S_ 1 := andi main_v45 main_v49
  let main_v51 : FVec F S32 .f32 := Host.absf main_arg11
  fn_part3 (F := F) main_arg12 main_arg14 main_v50 main_v51

def fn_part1 {F : FTy → Type} [FloatOps F] (main_arg5 : FVec F S9x16 .f32) (main_arg6 : FVec F S10x16 .f32) (main_arg7 : FVec F S2x32 .f32) (main_arg8 : FVec F S32x32 .f32) (main_arg9 : FVec F S32 .f32) (main_arg10 : FVec F S32x6 .f32) (main_arg11 : FVec F S32 .f32) (main_arg12 : FVec F S176 .f32) (main_arg14 : FVec F S512x176 .f32) (main_v14 : IVec S_ 1) (main_v15 : FVec F S11x16 .f32) (main_v16 : FVec F S11x16 .f32) : IVec S_ 1 :=
  let main_v17 : IVec S11x16 1 := cmpf .olt main_v15 main_v16
  let main_c_5 : IVec S_ 1 := constantI S_ 1 1#1
  let main_v18 : IVec S_ 1 := (fun x v => Host.reduce IntOp.andi x v reducesTo_S11x16_S_d0_1 h_S_) main_v17 main_c_5
  let main_v19 : IVec S_ 1 := andi main_v14 main_v18
  let main_v20 : FVec F S9x16 .f32 := Host.absf main_arg5
  let main_cst_6 : FVec F S_ .f32 := constant S_ .f32 0x7F800000#32
  let main_v21 : FVec F S9x16 .f32 := broadcastInDim S9x16 ![] bcast_S_S9x16 main_cst_6
  let main_v22 : IVec S9x16 1 := cmpf .olt main_v20 main_v21
  let main_c_7 : IVec S_ 1 := constantI S_ 1 1#1
  let main_v23 : IVec S_ 1 := (fun x v => Host.reduce IntOp.andi x v reducesTo_S9x16_S_d0_1 h_S_) main_v22 main_c_7
  let main_v24 : IVec S_ 1 := andi main_v19 main_v23
  let main_v25 : FVec F S10x16 .f32 := Host.absf main_arg6
  let main_cst_8 : FVec F S_ .f32 := constant S_ .f32 0x7F800000#32
  let main_v26 : FVec F S10x16 .f32 := broadcastInDim S10x16 ![] bcast_S_S10x16 main_cst_8
  let main_v27 : IVec S10x16 1 := cmpf .olt main_v25 main_v26
  let main_c_9 : IVec S_ 1 := constantI S_ 1 1#1
  let main_v28 : IVec S_ 1 := (fun x v => Host.reduce IntOp.andi x v reducesTo_S10x16_S_d0_1 h_S_) main_v27 main_c_9
  let main_v29 : IVec S_ 1 := andi main_v24 main_v28
  let main_v30 : FVec F S1x32 .f32 := (extractStridedSlice S1x32 ![1, 0] · slices_S2x32_S1x32_1_0) main_arg7
  let main_v31 : FVec F S1x32 .f32 := Host.absf main_v30
  let main_cst_10 : FVec F S_ .f32 := constant S_ .f32 0x7F800000#32
  let main_v32 : FVec F S1x32 .f32 := broadcastInDim S1x32 ![] bcast_S_S1x32 main_cst_10
  let main_v33 : IVec S1x32 1 := cmpf .olt main_v31 main_v32
  let main_c_11 : IVec S_ 1 := constantI S_ 1 1#1
  fn_part2 (F := F) main_arg8 main_arg9 main_arg10 main_arg11 main_arg12 main_arg14 main_v29 main_v33 main_c_11

def fn {F : FTy → Type} [FloatOps F] (main_arg0 : FVec F S1024x50x11 .f32) (main_arg1 : IVec S1024x50x8 32) (main_arg2 : FVec F S15x32 .f32) (main_arg3 : FVec F S21x32 .f32) (main_arg4 : FVec F S11x16 .f32) (main_arg5 : FVec F S9x16 .f32) (main_arg6 : FVec F S10x16 .f32) (main_arg7 : FVec F S2x32 .f32) (main_arg8 : FVec F S32x32 .f32) (main_arg9 : FVec F S32 .f32) (main_arg10 : FVec F S32x6 .f32) (main_arg11 : FVec F S32 .f32) (main_arg12 : FVec F S176 .f32) (main_arg13 : FVec F S176 .f32) (main_arg14 : FVec F S512x176 .f32) (main_arg15 : FVec F S512 .f32) : IVec S_ 1 :=
  let main_v0 : FVec F S1024x50x6 .f32 := (extractStridedSlice S1024x50x6 ![0, 0, 5] · slices_S1024x50x11_S1024x50x6_0_0_5) main_arg0
  let main_v1 : FVec F S1024x50x6 .f32 := Host.absf main_v0
  let main_cst : FVec F S_ .f32 := constant S_ .f32 0x7F800000#32
  let main_v2 : FVec F S1024x50x6 .f32 := broadcastInDim S1024x50x6 ![] bcast_S_S1024x50x6 main_cst
  let main_v3 : IVec S1024x50x6 1 := cmpf .olt main_v1 main_v2
  let main_c : IVec S_ 1 := constantI S_ 1 1#1
  let main_v4 : IVec S_ 1 := (fun x v => Host.reduce IntOp.andi x v reducesTo_S1024x50x6_S_d0_1_2 h_S_) main_v3 main_c
  let main_v5 : FVec F S15x32 .f32 := Host.absf main_arg2
  let main_cst_0 : FVec F S_ .f32 := constant S_ .f32 0x7F800000#32
  let main_v6 : FVec F S15x32 .f32 := broadcastInDim S15x32 ![] bcast_S_S15x32 main_cst_0
  let main_v7 : IVec S15x32 1 := cmpf .olt main_v5 main_v6
  let main_c_1 : IVec S_ 1 := constantI S_ 1 1#1
  let main_v8 : IVec S_ 1 := (fun x v => Host.reduce IntOp.andi x v reducesTo_S15x32_S_d0_1 h_S_) main_v7 main_c_1
  let main_v9 : IVec S_ 1 := andi main_v4 main_v8
  let main_v10 : FVec F S21x32 .f32 := Host.absf main_arg3
  let main_cst_2 : FVec F S_ .f32 := constant S_ .f32 0x7F800000#32
  let main_v11 : FVec F S21x32 .f32 := broadcastInDim S21x32 ![] bcast_S_S21x32 main_cst_2
  let main_v12 : IVec S21x32 1 := cmpf .olt main_v10 main_v11
  let main_c_3 : IVec S_ 1 := constantI S_ 1 1#1
  let main_v13 : IVec S_ 1 := (fun x v => Host.reduce IntOp.andi x v reducesTo_S21x32_S_d0_1 h_S_) main_v12 main_c_3
  let main_v14 : IVec S_ 1 := andi main_v9 main_v13
  let main_v15 : FVec F S11x16 .f32 := Host.absf main_arg4
  let main_cst_4 : FVec F S_ .f32 := constant S_ .f32 0x7F800000#32
  let main_v16 : FVec F S11x16 .f32 := broadcastInDim S11x16 ![] bcast_S_S11x16 main_cst_4
  fn_part1 (F := F) main_arg5 main_arg6 main_arg7 main_arg8 main_arg9 main_arg10 main_arg11 main_arg12 main_arg14 main_v14 main_v15 main_v16
-- ==== Kernel.lean ====
abbrev S1024x50x11 : Shape := ⟨3, ![1024, 50, 11]⟩
abbrev S1024x50x8 : Shape := ⟨3, ![1024, 50, 8]⟩
abbrev S15x32 : Shape := ⟨2, ![15, 32]⟩
abbrev S21x32 : Shape := ⟨2, ![21, 32]⟩
abbrev S11x16 : Shape := ⟨2, ![11, 16]⟩
abbrev S9x16 : Shape := ⟨2, ![9, 16]⟩
abbrev S10x16 : Shape := ⟨2, ![10, 16]⟩
abbrev S2x32 : Shape := ⟨2, ![2, 32]⟩
abbrev S32x32 : Shape := ⟨2, ![32, 32]⟩
abbrev S32 : Shape := ⟨1, ![32]⟩
abbrev S32x6 : Shape := ⟨2, ![32, 6]⟩
abbrev S176 : Shape := ⟨1, ![176]⟩
abbrev S512x176 : Shape := ⟨2, ![512, 176]⟩
abbrev S512 : Shape := ⟨1, ![512]⟩
abbrev S2x8 : Shape := ⟨2, ![2, 8]⟩
abbrev S6x128 : Shape := ⟨2, ![6, 128]⟩
abbrev S128x512 : Shape := ⟨2, ![128, 512]⟩
abbrev S128x8 : Shape := ⟨2, ![128, 8]⟩
abbrev S512x32 : Shape := ⟨2, ![512, 32]⟩
abbrev S32x11 : Shape := ⟨2, ![32, 11]⟩
abbrev S1x32 : Shape := ⟨2, ![1, 32]⟩
abbrev S1x512 : Shape := ⟨2, ![1, 512]⟩
abbrev S68x176 : Shape := ⟨2, ![68, 176]⟩
abbrev S1x176 : Shape := ⟨2, ![1, 176]⟩
abbrev S68x512 : Shape := ⟨2, ![68, 512]⟩
abbrev S68 : Shape := ⟨1, ![68]⟩
abbrev S68x1 : Shape := ⟨2, ![68, 1]⟩
abbrev S1024x50x512 : Shape := ⟨3, ![1024, 50, 512]⟩
abbrev S32x50x11 : Shape := ⟨3, ![32, 50, 11]⟩
abbrev S32x50x8 : Shape := ⟨3, ![32, 50, 8]⟩
abbrev S32x50x512 : Shape := ⟨3, ![32, 50, 512]⟩
abbrev S1600x11 : Shape := ⟨2, ![1600, 11]⟩
abbrev S1600x8 : Shape := ⟨2, ![1600, 8]⟩
abbrev S1600x5 : Shape := ⟨2, ![1600, 5]⟩
abbrev S1x5 : Shape := ⟨2, ![1, 5]⟩
abbrev S1600 : Shape := ⟨1, ![1600]⟩
abbrev S1600x1 : Shape := ⟨2, ![1600, 1]⟩
abbrev S1600x6 : Shape := ⟨2, ![1600, 6]⟩
abbrev S1600x128 : Shape := ⟨2, ![1600, 128]⟩
abbrev S1600x32 : Shape := ⟨2, ![1600, 32]⟩
abbrev S1600x512 : Shape := ⟨2, ![1600, 512]⟩

abbrev nBuf : Space → Nat
  | .hbm => 26
  | .vmem => 37
  | .smem => 0
  | _ => 0

abbrev bufTy : (tb : Table) → Fin (tcTables nBuf tb) → BufTy
  | .hbm, ⟨0, _⟩ => ⟨S1024x50x11, .f32⟩
  | .hbm, ⟨1, _⟩ => ⟨S1024x50x8, .i32⟩
  | .hbm, ⟨2, _⟩ => ⟨S15x32, .f32⟩
  | .hbm, ⟨3, _⟩ => ⟨S21x32, .f32⟩
  | .hbm, ⟨4, _⟩ => ⟨S11x16, .f32⟩
  | .hbm, ⟨5, _⟩ => ⟨S9x16, .f32⟩
  | .hbm, ⟨6, _⟩ => ⟨S10x16, .f32⟩
  | .hbm, ⟨7, _⟩ => ⟨S2x32, .f32⟩
  | .hbm, ⟨8, _⟩ => ⟨S32x32, .f32⟩
  | .hbm, ⟨9, _⟩ => ⟨S32, .f32⟩
  | .hbm, ⟨10, _⟩ => ⟨S32x6, .f32⟩
  | .hbm, ⟨11, _⟩ => ⟨S32, .f32⟩
  | .hbm, ⟨12, _⟩ => ⟨S176, .f32⟩
  | .hbm, ⟨13, _⟩ => ⟨S176, .f32⟩
  | .hbm, ⟨14, _⟩ => ⟨S512x176, .f32⟩
  | .hbm, ⟨15, _⟩ => ⟨S512, .f32⟩
  | .hbm, ⟨16, _⟩ => ⟨S2x8, .i32⟩
  | .hbm, ⟨17, _⟩ => ⟨S6x128, .f32⟩
  | .hbm, ⟨18, _⟩ => ⟨S128x512, .f32⟩
  | .hbm, ⟨19, _⟩ => ⟨S128x8, .f32⟩
  | .hbm, ⟨20, _⟩ => ⟨S512x32, .f32⟩
  | .hbm, ⟨21, _⟩ => ⟨S32x11, .f32⟩
  | .hbm, ⟨22, _⟩ => ⟨S1x32, .f32⟩
  | .hbm, ⟨23, _⟩ => ⟨S1x512, .f32⟩
  | .hbm, ⟨24, _⟩ => ⟨S1x512, .f32⟩
  | .hbm, ⟨25, _⟩ => ⟨S1024x50x512, .f32⟩
  | .local _ .vmem, ⟨0, _⟩ => ⟨S15x32, .f32⟩
  | .local _ .vmem, ⟨1, _⟩ => ⟨S21x32, .f32⟩
  | .local _ .vmem, ⟨2, _⟩ => ⟨S11x16, .f32⟩
  | .local _ .vmem, ⟨3, _⟩ => ⟨S9x16, .f32⟩
  | .local _ .vmem, ⟨4, _⟩ => ⟨S10x16, .f32⟩
  | .local _ .vmem, ⟨5, _⟩ => ⟨S2x32, .f32⟩
  | .local _ .vmem, ⟨6, _⟩ => ⟨S32x32, .f32⟩
  | .local _ .vmem, ⟨7, _⟩ => ⟨S32, .f32⟩
  | .local _ .vmem, ⟨8, _⟩ => ⟨S32x6, .f32⟩
  | .local _ .vmem, ⟨9, _⟩ => ⟨S32, .f32⟩
  | .local _ .vmem, ⟨10, _⟩ => ⟨S176, .f32⟩
  | .local _ .vmem, ⟨11, _⟩ => ⟨S176, .f32⟩
  | .local _ .vmem, ⟨12, _⟩ => ⟨S512x176, .f32⟩
  | .local _ .vmem, ⟨13, _⟩ => ⟨S512, .f32⟩
  | .local _ .vmem, ⟨14, _⟩ => ⟨S128x512, .f32⟩
  | .local _ .vmem, ⟨15, _⟩ => ⟨S128x8, .f32⟩
  | .local _ .vmem, ⟨16, _⟩ => ⟨S512x32, .f32⟩
  | .local _ .vmem, ⟨17, _⟩ => ⟨S32x11, .f32⟩
  | .local _ .vmem, ⟨18, _⟩ => ⟨S1x32, .f32⟩
  | .local _ .vmem, ⟨19, _⟩ => ⟨S1x512, .f32⟩
  | .local _ .vmem, ⟨20, _⟩ => ⟨S1x512, .f32⟩
  | .local _ .vmem, ⟨21, _⟩ => ⟨S68x176, .f32⟩
  | .local _ .vmem, ⟨22, _⟩ => ⟨S32x50x11, .f32⟩
  | .local _ .vmem, ⟨23, _⟩ => ⟨S32x50x11, .f32⟩
  | .local _ .vmem, ⟨24, _⟩ => ⟨S32x50x8, .i32⟩
  | .local _ .vmem, ⟨25, _⟩ => ⟨S32x50x8, .i32⟩
  | .local _ .vmem, ⟨26, _⟩ => ⟨S2x8, .i32⟩
  | .local _ .vmem, ⟨27, _⟩ => ⟨S6x128, .f32⟩
  | .local _ .vmem, ⟨28, _⟩ => ⟨S128x512, .f32⟩
  | .local _ .vmem, ⟨29, _⟩ => ⟨S128x8, .f32⟩
  | .local _ .vmem, ⟨30, _⟩ => ⟨S512x32, .f32⟩
  | .local _ .vmem, ⟨31, _⟩ => ⟨S32x11, .f32⟩
  | .local _ .vmem, ⟨32, _⟩ => ⟨S1x32, .f32⟩
  | .local _ .vmem, ⟨33, _⟩ => ⟨S1x512, .f32⟩
  | .local _ .vmem, ⟨34, _⟩ => ⟨S1x512, .f32⟩
  | .local _ .vmem, ⟨35, _⟩ => ⟨S32x50x512, .f32⟩
  | .local _ .vmem, ⟨36, _⟩ => ⟨S32x50x512, .f32⟩
  | _, _ => ⟨S1024x50x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_cst : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev main_v0_4 : Ref sig .tc := ⟨.hbm, 22, rfl⟩
abbrev main_v0_5 : Ref sig .tc := ⟨.hbm, 23, rfl⟩
abbrev main_v0_6 : Ref sig .tc := ⟨.hbm, 24, rfl⟩
abbrev main_v1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_scratch0 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg11_0 : Ref sig .tc := ⟨.vmem, 35, rfl⟩
abbrev cc1_stg11_1 : Ref sig .tc := ⟨.vmem, 36, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem11_1 : DmaSem sig := 35

abbrev nD : Nat := 1
abbrev τ : Topo := Topo.v7x

variable {F : FTy → Type} [FloatOps F]

abbrev grid0 : Pipeline.Grid := .none

abbrev stage0_0 : Fin 1 → Memref sig .tc .vmem S15x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S21x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S176 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S176 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x176 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x11 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x50x11 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x50x8 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x8 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S6x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x11 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S32x50x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== KernelIdeal.lean ====
variable {F : FTy → Type} [FloatOps F] [Named F]
def κ : String → Option EReal := fun
  | "inv_dim" => some ((1 / 176 : ℝ) : EReal)
  | _ => none
-- ==== ReferenceIdeal.lean ====
abbrev S1024x50x11 : Shape := ⟨3, ![1024, 50, 11]⟩
abbrev S1024x50x8 : Shape := ⟨3, ![1024, 50, 8]⟩
abbrev S15x32 : Shape := ⟨2, ![15, 32]⟩
abbrev S21x32 : Shape := ⟨2, ![21, 32]⟩
abbrev S11x16 : Shape := ⟨2, ![11, 16]⟩
abbrev S9x16 : Shape := ⟨2, ![9, 16]⟩
abbrev S10x16 : Shape := ⟨2, ![10, 16]⟩
abbrev S2x32 : Shape := ⟨2, ![2, 32]⟩
abbrev S32x32 : Shape := ⟨2, ![32, 32]⟩
abbrev S32 : Shape := ⟨1, ![32]⟩
abbrev S32x6 : Shape := ⟨2, ![32, 6]⟩
abbrev S176 : Shape := ⟨1, ![176]⟩
abbrev S512x176 : Shape := ⟨2, ![512, 176]⟩
abbrev S512 : Shape := ⟨1, ![512]⟩
abbrev S1024x50x5 : Shape := ⟨3, ![1024, 50, 5]⟩
abbrev S1024x50x6 : Shape := ⟨3, ![1024, 50, 6]⟩
abbrev S1024x50x1 : Shape := ⟨3, ![1024, 50, 1]⟩
abbrev S1024x50 : Shape := ⟨2, ![1024, 50]⟩
abbrev S_ : Shape := ⟨0, ![]⟩
abbrev S1 : Shape := ⟨1, ![1]⟩
abbrev S1x1x1 : Shape := ⟨3, ![1, 1, 1]⟩
abbrev S1024x50x32 : Shape := ⟨3, ![1024, 50, 32]⟩
abbrev S1024x50x16 : Shape := ⟨3, ![1024, 50, 16]⟩
abbrev S1024x50x8x1 : Shape := ⟨4, ![1024, 50, 8, 1]⟩
abbrev S1x1x1x1 : Shape := ⟨4, ![1, 1, 1, 1]⟩
abbrev S1024x50x8x32 : Shape := ⟨4, ![1024, 50, 8, 32]⟩
abbrev S1x1x32 : Shape := ⟨3, ![1, 1, 32]⟩
abbrev S6x32 : Shape := ⟨2, ![6, 32]⟩
abbrev S1024x50x176 : Shape := ⟨3, ![1024, 50, 176]⟩
abbrev S1x1x176 : Shape := ⟨3, ![1, 1, 176]⟩
abbrev S176x512 : Shape := ⟨2, ![176, 512]⟩
abbrev S1024x50x512 : Shape := ⟨3, ![1024, 50, 512]⟩
abbrev S1x1x512 : Shape := ⟨3, ![1, 1, 512]⟩

abbrev nBuf : Space → Nat
  | .hbm => 277
  | .vmem => 0
  | .smem => 0
  | _ => 0

abbrev hbmTy0_0 (i : Nat) : BufTy := match i % 128 with
  | 0 => ⟨S1024x50x11, .f32⟩
  | 1 => ⟨S1024x50x8, .i32⟩
  | 2 => ⟨S15x32, .f32⟩
  | 3 => ⟨S21x32, .f32⟩
  | 4 => ⟨S11x16, .f32⟩
  | 5 => ⟨S9x16, .f32⟩
  | 6 => ⟨S10x16, .f32⟩
  | 7 => ⟨S2x32, .f32⟩
  | 8 => ⟨S32x32, .f32⟩
  | 9 => ⟨S32, .f32⟩
  | 10 => ⟨S32x6, .f32⟩
  | 11 => ⟨S32, .f32⟩
  | 12 => ⟨S176, .f32⟩
  | 13 => ⟨S176, .f32⟩
  | 14 => ⟨S512x176, .f32⟩
  | 15 => ⟨S512, .f32⟩
  | 16 => ⟨S1024x50x5, .f32⟩
  | 17 => ⟨S1024x50x5, .i32⟩
  | 18 => ⟨S1024x50x6, .f32⟩
  | 19 => ⟨S1024x50x1, .i32⟩
  | 20 => ⟨S1024x50, .i32⟩
  | 21 => ⟨S_, .i32⟩
  | 22 => ⟨S_, .i32⟩
  | 23 => ⟨S_, .i32⟩
  | 24 => ⟨S1024x50, .i32⟩
  | 25 => ⟨S1024x50, .i32⟩
  | 26 => ⟨S_, .i32⟩
  | 27 => ⟨S1024x50, .i32⟩
  | 28 => ⟨S1024x50, .i32⟩
  | 29 => ⟨S1024x50x1, .i32⟩
  | 30 => ⟨S1024x50, .i32⟩
  | 31 => ⟨S_, .i32⟩
  | 32 => ⟨S_, .i32⟩
  | 33 => ⟨S_, .i32⟩
  | 34 => ⟨S1024x50, .i32⟩
  | 35 => ⟨S1024x50, .i32⟩
  | 36 => ⟨S_, .i32⟩
  | 37 => ⟨S1024x50, .i32⟩
  | 38 => ⟨S1024x50, .i32⟩
  | 39 => ⟨S1024x50x1, .i32⟩
  | 40 => ⟨S1024x50, .i32⟩
  | 41 => ⟨S_, .i32⟩
  | 42 => ⟨S_, .i32⟩
  | 43 => ⟨S_, .i32⟩
  | 44 => ⟨S1024x50, .i32⟩
  | 45 => ⟨S1024x50, .i32⟩
  | 46 => ⟨S_, .i32⟩
  | 47 => ⟨S1024x50, .i32⟩
  | 48 => ⟨S1024x50, .i32⟩
  | 49 => ⟨S1024x50x1, .i32⟩
  | 50 => ⟨S1024x50, .i32⟩
  | 51 => ⟨S_, .i32⟩
  | 52 => ⟨S_, .i32⟩
  | 53 => ⟨S_, .i32⟩
  | 54 => ⟨S1024x50, .i32⟩
  | 55 => ⟨S1024x50, .i32⟩
  | 56 => ⟨S_, .i32⟩
  | 57 => ⟨S1024x50, .i32⟩
  | 58 => ⟨S1024x50, .i32⟩
  | 59 => ⟨S1024x50x1, .i32⟩
  | 60 => ⟨S1024x50, .i32⟩
  | 61 => ⟨S_, .i32⟩
  | 62 => ⟨S_, .i32⟩
  | 63 => ⟨S_, .i32⟩
  | 64 => ⟨S1024x50, .i32⟩
  | 65 => ⟨S1024x50, .i32⟩
  | 66 => ⟨S_, .i32⟩
  | 67 => ⟨S1024x50, .i32⟩
  | 68 => ⟨S1024x50, .i32⟩
  | 69 => ⟨S_, .i32⟩
  | 70 => ⟨S1024x50, .i32⟩
  | 71 => ⟨S1024x50, .i1⟩
  | 72 => ⟨S_, .i32⟩
  | 73 => ⟨S1024x50, .i32⟩
  | 74 => ⟨S1024x50, .i32⟩
  | 75 => ⟨S1024x50, .i32⟩
  | 76 => ⟨S1024x50x1, .i32⟩
  | 77 => ⟨S1, .i32⟩
  | 78 => ⟨S_, .i32⟩
  | 79 => ⟨S1024x50x1, .i32⟩
  | 80 => ⟨S1024x50x1, .i1⟩
  | 81 => ⟨S1x1x1, .i32⟩
  | 82 => ⟨S1024x50x1, .i32⟩
  | 83 => ⟨S1024x50x1, .i1⟩
  | 84 => ⟨S1024x50x1, .i1⟩
  | 85 => ⟨S_, .i1⟩
  | 86 => ⟨S1024x50, .i1⟩
  | 87 => ⟨S1024x50x32, .f32⟩
  | 88 => ⟨S1024x50x32, .i1⟩
  | 89 => ⟨S_, .f32⟩
  | 90 => ⟨S1024x50x32, .f32⟩
  | 91 => ⟨S1024x50x32, .f32⟩
  | 92 => ⟨S_, .i32⟩
  | 93 => ⟨S1024x50, .i32⟩
  | 94 => ⟨S1024x50, .i1⟩
  | 95 => ⟨S_, .i32⟩
  | 96 => ⟨S1024x50, .i32⟩
  | 97 => ⟨S1024x50, .i32⟩
  | 98 => ⟨S1024x50, .i32⟩
  | 99 => ⟨S1024x50x1, .i32⟩
  | 100 => ⟨S1, .i32⟩
  | 101 => ⟨S_, .i32⟩
  | 102 => ⟨S1024x50x1, .i32⟩
  | 103 => ⟨S1024x50x1, .i1⟩
  | 104 => ⟨S1x1x1, .i32⟩
  | 105 => ⟨S1024x50x1, .i32⟩
  | 106 => ⟨S1024x50x1, .i1⟩
  | 107 => ⟨S1024x50x1, .i1⟩
  | 108 => ⟨S_, .i1⟩
  | 109 => ⟨S1024x50, .i1⟩
  | 110 => ⟨S1024x50x32, .f32⟩
  | 111 => ⟨S1024x50x32, .i1⟩
  | 112 => ⟨S_, .f32⟩
  | 113 => ⟨S1024x50x32, .f32⟩
  | 114 => ⟨S1024x50x32, .f32⟩
  | 115 => ⟨S_, .i32⟩
  | 116 => ⟨S1024x50, .i32⟩
  | 117 => ⟨S1024x50, .i1⟩
  | 118 => ⟨S_, .i32⟩
  | 119 => ⟨S1024x50, .i32⟩
  | 120 => ⟨S1024x50, .i32⟩
  | 121 => ⟨S1024x50, .i32⟩
  | 122 => ⟨S1024x50x1, .i32⟩
  | 123 => ⟨S1, .i32⟩
  | 124 => ⟨S_, .i32⟩
  | 125 => ⟨S1024x50x1, .i32⟩
  | 126 => ⟨S1024x50x1, .i1⟩
  | 127 => ⟨S1x1x1, .i32⟩
  | _ => ⟨S1024x50x11, .f32⟩

abbrev hbmTy0_1 (i : Nat) : BufTy := match i % 128 with
  | 0 => ⟨S1024x50x1, .i32⟩
  | 1 => ⟨S1024x50x1, .i1⟩
  | 2 => ⟨S1024x50x1, .i1⟩
  | 3 => ⟨S_, .i1⟩
  | 4 => ⟨S1024x50, .i1⟩
  | 5 => ⟨S1024x50x16, .f32⟩
  | 6 => ⟨S1024x50x16, .i1⟩
  | 7 => ⟨S_, .f32⟩
  | 8 => ⟨S1024x50x16, .f32⟩
  | 9 => ⟨S1024x50x16, .f32⟩
  | 10 => ⟨S_, .i32⟩
  | 11 => ⟨S1024x50, .i32⟩
  | 12 => ⟨S1024x50, .i1⟩
  | 13 => ⟨S_, .i32⟩
  | 14 => ⟨S1024x50, .i32⟩
  | 15 => ⟨S1024x50, .i32⟩
  | 16 => ⟨S1024x50, .i32⟩
  | 17 => ⟨S1024x50x1, .i32⟩
  | 18 => ⟨S1, .i32⟩
  | 19 => ⟨S_, .i32⟩
  | 20 => ⟨S1024x50x1, .i32⟩
  | 21 => ⟨S1024x50x1, .i1⟩
  | 22 => ⟨S1x1x1, .i32⟩
  | 23 => ⟨S1024x50x1, .i32⟩
  | 24 => ⟨S1024x50x1, .i1⟩
  | 25 => ⟨S1024x50x1, .i1⟩
  | 26 => ⟨S_, .i1⟩
  | 27 => ⟨S1024x50, .i1⟩
  | 28 => ⟨S1024x50x16, .f32⟩
  | 29 => ⟨S1024x50x16, .i1⟩
  | 30 => ⟨S_, .f32⟩
  | 31 => ⟨S1024x50x16, .f32⟩
  | 32 => ⟨S1024x50x16, .f32⟩
  | 33 => ⟨S_, .i32⟩
  | 34 => ⟨S1024x50, .i32⟩
  | 35 => ⟨S1024x50, .i1⟩
  | 36 => ⟨S_, .i32⟩
  | 37 => ⟨S1024x50, .i32⟩
  | 38 => ⟨S1024x50, .i32⟩
  | 39 => ⟨S1024x50, .i32⟩
  | 40 => ⟨S1024x50x1, .i32⟩
  | 41 => ⟨S1, .i32⟩
  | 42 => ⟨S_, .i32⟩
  | 43 => ⟨S1024x50x1, .i32⟩
  | 44 => ⟨S1024x50x1, .i1⟩
  | 45 => ⟨S1x1x1, .i32⟩
  | 46 => ⟨S1024x50x1, .i32⟩
  | 47 => ⟨S1024x50x1, .i1⟩
  | 48 => ⟨S1024x50x1, .i1⟩
  | 49 => ⟨S_, .i1⟩
  | 50 => ⟨S1024x50, .i1⟩
  | 51 => ⟨S1024x50x16, .f32⟩
  | 52 => ⟨S1024x50x16, .i1⟩
  | 53 => ⟨S_, .f32⟩
  | 54 => ⟨S1024x50x16, .f32⟩
  | 55 => ⟨S1024x50x16, .f32⟩
  | 56 => ⟨S_, .i32⟩
  | 57 => ⟨S_, .i32⟩
  | 58 => ⟨S_, .i32⟩
  | 59 => ⟨S1024x50x8, .i32⟩
  | 60 => ⟨S1024x50x8, .i32⟩
  | 61 => ⟨S_, .i32⟩
  | 62 => ⟨S1024x50x8, .i32⟩
  | 63 => ⟨S1024x50x8, .i32⟩
  | 64 => ⟨S_, .i32⟩
  | 65 => ⟨S1024x50x8, .i32⟩
  | 66 => ⟨S1024x50x8, .i1⟩
  | 67 => ⟨S_, .i32⟩
  | 68 => ⟨S1024x50x8, .i32⟩
  | 69 => ⟨S1024x50x8, .i32⟩
  | 70 => ⟨S1024x50x8, .i32⟩
  | 71 => ⟨S1024x50x8x1, .i32⟩
  | 72 => ⟨S1, .i32⟩
  | 73 => ⟨S_, .i32⟩
  | 74 => ⟨S1024x50x8x1, .i32⟩
  | 75 => ⟨S1024x50x8x1, .i1⟩
  | 76 => ⟨S1x1x1x1, .i32⟩
  | 77 => ⟨S1024x50x8x1, .i32⟩
  | 78 => ⟨S1024x50x8x1, .i1⟩
  | 79 => ⟨S1024x50x8x1, .i1⟩
  | 80 => ⟨S_, .i1⟩
  | 81 => ⟨S1024x50x8, .i1⟩
  | 82 => ⟨S1024x50x8x32, .f32⟩
  | 83 => ⟨S1024x50x8x32, .i1⟩
  | 84 => ⟨S_, .f32⟩
  | 85 => ⟨S1024x50x8x32, .f32⟩
  | 86 => ⟨S1024x50x8x32, .f32⟩
  | 87 => ⟨S_, .i32⟩
  | 88 => ⟨S1024x50x8, .i32⟩
  | 89 => ⟨S1024x50x8, .i1⟩
  | 90 => ⟨S1024x50x8, .f32⟩
  | 91 => ⟨S1024x50x8x1, .f32⟩
  | 92 => ⟨S1024x50x8x32, .f32⟩
  | 93 => ⟨S1024x50x8x32, .f32⟩
  | 94 => ⟨S_, .f32⟩
  | 95 => ⟨S1024x50x32, .f32⟩
  | 96 => ⟨S_, .f32⟩
  | 97 => ⟨S1024x50x1, .f32⟩
  | 98 => ⟨S_, .f32⟩
  | 99 => ⟨S_, .f32⟩
  | 100 => ⟨S1024x50x1, .f32⟩
  | 101 => ⟨S1024x50x1, .f32⟩
  | 102 => ⟨S1024x50x32, .f32⟩
  | 103 => ⟨S1024x50x32, .f32⟩
  | 104 => ⟨S32x32, .f32⟩
  | 105 => ⟨S1024x50x32, .f32⟩
  | 106 => ⟨S1x1x32, .f32⟩
  | 107 => ⟨S1024x50x32, .f32⟩
  | 108 => ⟨S1024x50x32, .f32⟩
  | 109 => ⟨S6x32, .f32⟩
  | 110 => ⟨S1024x50x32, .f32⟩
  | 111 => ⟨S1x1x32, .f32⟩
  | 112 => ⟨S1024x50x32, .f32⟩
  | 113 => ⟨S1024x50x32, .f32⟩
  | 114 => ⟨S1024x50x176, .f32⟩
  | 115 => ⟨S_, .f32⟩
  | 116 => ⟨S1024x50, .f32⟩
  | 117 => ⟨S1024x50x1, .f32⟩
  | 118 => ⟨S_, .f32⟩
  | 119 => ⟨S1024x50x1, .f32⟩
  | 120 => ⟨S1024x50x1, .f32⟩
  | 121 => ⟨S1024x50x176, .f32⟩
  | 122 => ⟨S1024x50x176, .f32⟩
  | 123 => ⟨S1024x50x176, .f32⟩
  | 124 => ⟨S_, .f32⟩
  | 125 => ⟨S1024x50, .f32⟩
  | 126 => ⟨S1024x50x1, .f32⟩
  | 127 => ⟨S_, .f32⟩
  | _ => ⟨S1024x50x11, .f32⟩

abbrev hbmTy0_2 (i : Nat) : BufTy := match i % 128 with
  | 0 => ⟨S1024x50x1, .f32⟩
  | 1 => ⟨S1024x50x1, .f32⟩
  | 2 => ⟨S1024x50x176, .f32⟩
  | 3 => ⟨S1024x50x176, .f32⟩
  | 4 => ⟨S_, .f32⟩
  | 5 => ⟨S1024x50x1, .f32⟩
  | 6 => ⟨S1024x50x1, .f32⟩
  | 7 => ⟨S1024x50x1, .f32⟩
  | 8 => ⟨S1024x50x176, .f32⟩
  | 9 => ⟨S1024x50x176, .f32⟩
  | 10 => ⟨S1x1x176, .f32⟩
  | 11 => ⟨S1024x50x176, .f32⟩
  | 12 => ⟨S1024x50x176, .f32⟩
  | 13 => ⟨S1x1x176, .f32⟩
  | 14 => ⟨S1024x50x176, .f32⟩
  | 15 => ⟨S1024x50x176, .f32⟩
  | 16 => ⟨S176x512, .f32⟩
  | 17 => ⟨S1024x50x512, .f32⟩
  | 18 => ⟨S1x1x512, .f32⟩
  | 19 => ⟨S1024x50x512, .f32⟩
  | 20 => ⟨S1024x50x512, .f32⟩
  | _ => ⟨S1024x50x11, .f32⟩

abbrev hbmTy (i : Nat) : BufTy := match i / 128 with
  | 0 => hbmTy0_0 i
  | 1 => hbmTy0_1 i
  | 2 => hbmTy0_2 i
  | _ => ⟨S1024x50x11, .f32⟩

abbrev bufTy : (tb : Table) → Fin (tcTables nBuf tb) → BufTy
  | .hbm, ⟨i, _⟩ => hbmTy i
  | _, _ => ⟨S1024x50x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_c_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_c_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_3 : Ref sig .tc := ⟨.hbm, 41, rfl⟩
abbrev main_c_4 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_c_5 : Ref sig .tc := ⟨.hbm, 51, rfl⟩
abbrev main_c_6 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_c_7 : Ref sig .tc := ⟨.hbm, 61, rfl⟩
abbrev main_c_8 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_v17 : Ref sig .tc := ⟨.hbm, 68, rfl⟩
abbrev main_call5_c : Ref sig .tc := ⟨.hbm, 69, rfl⟩
abbrev main_call5_v0 : Ref sig .tc := ⟨.hbm, 70, rfl⟩
abbrev main_call5_v1 : Ref sig .tc := ⟨.hbm, 71, rfl⟩
abbrev main_call5_c_0 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_v5 : Ref sig .tc := ⟨.hbm, 76, rfl⟩
abbrev main_call5_c_1 : Ref sig .tc := ⟨.hbm, 77, rfl⟩
abbrev main_call5_c_2 : Ref sig .tc := ⟨.hbm, 78, rfl⟩
abbrev main_call5_v6 : Ref sig .tc := ⟨.hbm, 79, rfl⟩
abbrev main_call5_v7 : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_v11 : Ref sig .tc := ⟨.hbm, 84, rfl⟩
abbrev main_call5_c_3 : Ref sig .tc := ⟨.hbm, 85, rfl⟩
abbrev main_call5_v12 : Ref sig .tc := ⟨.hbm, 86, rfl⟩
abbrev main_call5_v13 : Ref sig .tc := ⟨.hbm, 87, rfl⟩
abbrev main_call5_v14 : Ref sig .tc := ⟨.hbm, 88, rfl⟩
abbrev main_call5_cst : Ref sig .tc := ⟨.hbm, 89, rfl⟩
abbrev main_call5_v15 : Ref sig .tc := ⟨.hbm, 90, rfl⟩
abbrev main_v18 : Ref sig .tc := ⟨.hbm, 91, rfl⟩
abbrev main_call6_c : Ref sig .tc := ⟨.hbm, 92, rfl⟩
abbrev main_call6_v0 : Ref sig .tc := ⟨.hbm, 93, rfl⟩
abbrev main_call6_v1 : Ref sig .tc := ⟨.hbm, 94, rfl⟩
abbrev main_call6_c_0 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_call6_v5 : Ref sig .tc := ⟨.hbm, 99, rfl⟩
abbrev main_call6_c_1 : Ref sig .tc := ⟨.hbm, 100, rfl⟩
abbrev main_call6_c_2 : Ref sig .tc := ⟨.hbm, 101, rfl⟩
abbrev main_call6_v6 : Ref sig .tc := ⟨.hbm, 102, rfl⟩
abbrev main_call6_v7 : Ref sig .tc := ⟨.hbm, 103, rfl⟩
abbrev main_call6_v8 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_c_3 : Ref sig .tc := ⟨.hbm, 108, rfl⟩
abbrev main_call6_v12 : Ref sig .tc := ⟨.hbm, 109, rfl⟩
abbrev main_call6_v13 : Ref sig .tc := ⟨.hbm, 110, rfl⟩
abbrev main_call6_v14 : Ref sig .tc := ⟨.hbm, 111, rfl⟩
abbrev main_call6_cst : Ref sig .tc := ⟨.hbm, 112, rfl⟩
abbrev main_call6_v15 : Ref sig .tc := ⟨.hbm, 113, rfl⟩
abbrev main_v19 : Ref sig .tc := ⟨.hbm, 114, rfl⟩
abbrev main_call7_c : Ref sig .tc := ⟨.hbm, 115, rfl⟩
abbrev main_call7_v0 : Ref sig .tc := ⟨.hbm, 116, rfl⟩
abbrev main_call7_v1 : Ref sig .tc := ⟨.hbm, 117, rfl⟩
abbrev main_call7_c_0 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_call7_v5 : Ref sig .tc := ⟨.hbm, 122, rfl⟩
abbrev main_call7_c_1 : Ref sig .tc := ⟨.hbm, 123, rfl⟩
abbrev main_call7_c_2 : Ref sig .tc := ⟨.hbm, 124, rfl⟩
abbrev main_call7_v6 : Ref sig .tc := ⟨.hbm, 125, rfl⟩
abbrev main_call7_v7 : Ref sig .tc := ⟨.hbm, 126, rfl⟩
abbrev main_call7_v8 : Ref sig .tc := ⟨.hbm, 127, rfl⟩
abbrev main_call7_v9 : Ref sig .tc := ⟨.hbm, 128, rfl⟩
abbrev main_call7_v10 : Ref sig .tc := ⟨.hbm, 129, rfl⟩
abbrev main_call7_v11 : Ref sig .tc := ⟨.hbm, 130, rfl⟩
abbrev main_call7_c_3 : Ref sig .tc := ⟨.hbm, 131, rfl⟩
abbrev main_call7_v12 : Ref sig .tc := ⟨.hbm, 132, rfl⟩
abbrev main_call7_v13 : Ref sig .tc := ⟨.hbm, 133, rfl⟩
abbrev main_call7_v14 : Ref sig .tc := ⟨.hbm, 134, rfl⟩
abbrev main_call7_cst : Ref sig .tc := ⟨.hbm, 135, rfl⟩
abbrev main_call7_v15 : Ref sig .tc := ⟨.hbm, 136, rfl⟩
abbrev main_v20 : Ref sig .tc := ⟨.hbm, 137, rfl⟩
abbrev main_call8_c : Ref sig .tc := ⟨.hbm, 138, rfl⟩
abbrev main_call8_v0 : Ref sig .tc := ⟨.hbm, 139, rfl⟩
abbrev main_call8_v1 : Ref sig .tc := ⟨.hbm, 140, rfl⟩
abbrev main_call8_c_0 : Ref sig .tc := ⟨.hbm, 141, rfl⟩
abbrev main_call8_v2 : Ref sig .tc := ⟨.hbm, 142, rfl⟩
abbrev main_call8_v3 : Ref sig .tc := ⟨.hbm, 143, rfl⟩
abbrev main_call8_v4 : Ref sig .tc := ⟨.hbm, 144, rfl⟩
abbrev main_call8_v5 : Ref sig .tc := ⟨.hbm, 145, rfl⟩
abbrev main_call8_c_1 : Ref sig .tc := ⟨.hbm, 146, rfl⟩
abbrev main_call8_c_2 : Ref sig .tc := ⟨.hbm, 147, rfl⟩
abbrev main_call8_v6 : Ref sig .tc := ⟨.hbm, 148, rfl⟩
abbrev main_call8_v7 : Ref sig .tc := ⟨.hbm, 149, rfl⟩
abbrev main_call8_v8 : Ref sig .tc := ⟨.hbm, 150, rfl⟩
abbrev main_call8_v9 : Ref sig .tc := ⟨.hbm, 151, rfl⟩
abbrev main_call8_v10 : Ref sig .tc := ⟨.hbm, 152, rfl⟩
abbrev main_call8_v11 : Ref sig .tc := ⟨.hbm, 153, rfl⟩
abbrev main_call8_c_3 : Ref sig .tc := ⟨.hbm, 154, rfl⟩
abbrev main_call8_v12 : Ref sig .tc := ⟨.hbm, 155, rfl⟩
abbrev main_call8_v13 : Ref sig .tc := ⟨.hbm, 156, rfl⟩
abbrev main_call8_v14 : Ref sig .tc := ⟨.hbm, 157, rfl⟩
abbrev main_call8_cst : Ref sig .tc := ⟨.hbm, 158, rfl⟩
abbrev main_call8_v15 : Ref sig .tc := ⟨.hbm, 159, rfl⟩
abbrev main_v21 : Ref sig .tc := ⟨.hbm, 160, rfl⟩
abbrev main_call9_c : Ref sig .tc := ⟨.hbm, 161, rfl⟩
abbrev main_call9_v0 : Ref sig .tc := ⟨.hbm, 162, rfl⟩
abbrev main_call9_v1 : Ref sig .tc := ⟨.hbm, 163, rfl⟩
abbrev main_call9_c_0 : Ref sig .tc := ⟨.hbm, 164, rfl⟩
abbrev main_call9_v2 : Ref sig .tc := ⟨.hbm, 165, rfl⟩
abbrev main_call9_v3 : Ref sig .tc := ⟨.hbm, 166, rfl⟩
abbrev main_call9_v4 : Ref sig .tc := ⟨.hbm, 167, rfl⟩
abbrev main_call9_v5 : Ref sig .tc := ⟨.hbm, 168, rfl⟩
abbrev main_call9_c_1 : Ref sig .tc := ⟨.hbm, 169, rfl⟩
abbrev main_call9_c_2 : Ref sig .tc := ⟨.hbm, 170, rfl⟩
abbrev main_call9_v6 : Ref sig .tc := ⟨.hbm, 171, rfl⟩
abbrev main_call9_v7 : Ref sig .tc := ⟨.hbm, 172, rfl⟩
abbrev main_call9_v8 : Ref sig .tc := ⟨.hbm, 173, rfl⟩
abbrev main_call9_v9 : Ref sig .tc := ⟨.hbm, 174, rfl⟩
abbrev main_call9_v10 : Ref sig .tc := ⟨.hbm, 175, rfl⟩
abbrev main_call9_v11 : Ref sig .tc := ⟨.hbm, 176, rfl⟩
abbrev main_call9_c_3 : Ref sig .tc := ⟨.hbm, 177, rfl⟩
abbrev main_call9_v12 : Ref sig .tc := ⟨.hbm, 178, rfl⟩
abbrev main_call9_v13 : Ref sig .tc := ⟨.hbm, 179, rfl⟩
abbrev main_call9_v14 : Ref sig .tc := ⟨.hbm, 180, rfl⟩
abbrev main_call9_cst : Ref sig .tc := ⟨.hbm, 181, rfl⟩
abbrev main_call9_v15 : Ref sig .tc := ⟨.hbm, 182, rfl⟩
abbrev main_v22 : Ref sig .tc := ⟨.hbm, 183, rfl⟩
abbrev main_c_9 : Ref sig .tc := ⟨.hbm, 184, rfl⟩
abbrev main_c_10 : Ref sig .tc := ⟨.hbm, 185, rfl⟩
abbrev main_call10_v0 : Ref sig .tc := ⟨.hbm, 186, rfl⟩
abbrev main_call10_v1 : Ref sig .tc := ⟨.hbm, 187, rfl⟩
abbrev main_call10_v2 : Ref sig .tc := ⟨.hbm, 188, rfl⟩
abbrev main_call10_v3 : Ref sig .tc := ⟨.hbm, 189, rfl⟩
abbrev main_call10_v4 : Ref sig .tc := ⟨.hbm, 190, rfl⟩
abbrev main_v23 : Ref sig .tc := ⟨.hbm, 191, rfl⟩
abbrev main_call11_c : Ref sig .tc := ⟨.hbm, 192, rfl⟩
abbrev main_call11_v0 : Ref sig .tc := ⟨.hbm, 193, rfl⟩
abbrev main_call11_v1 : Ref sig .tc := ⟨.hbm, 194, rfl⟩
abbrev main_call11_c_0 : Ref sig .tc := ⟨.hbm, 195, rfl⟩
abbrev main_call11_v2 : Ref sig .tc := ⟨.hbm, 196, rfl⟩
abbrev main_call11_v3 : Ref sig .tc := ⟨.hbm, 197, rfl⟩
abbrev main_call11_v4 : Ref sig .tc := ⟨.hbm, 198, rfl⟩
abbrev main_call11_v5 : Ref sig .tc := ⟨.hbm, 199, rfl⟩
abbrev main_call11_c_1 : Ref sig .tc := ⟨.hbm, 200, rfl⟩
abbrev main_call11_c_2 : Ref sig .tc := ⟨.hbm, 201, rfl⟩
abbrev main_call11_v6 : Ref sig .tc := ⟨.hbm, 202, rfl⟩
abbrev main_call11_v7 : Ref sig .tc := ⟨.hbm, 203, rfl⟩
abbrev main_call11_v8 : Ref sig .tc := ⟨.hbm, 204, rfl⟩
abbrev main_call11_v9 : Ref sig .tc := ⟨.hbm, 205, rfl⟩
abbrev main_call11_v10 : Ref sig .tc := ⟨.hbm, 206, rfl⟩
abbrev main_call11_v11 : Ref sig .tc := ⟨.hbm, 207, rfl⟩
abbrev main_call11_c_3 : Ref sig .tc := ⟨.hbm, 208, rfl⟩
abbrev main_call11_v12 : Ref sig .tc := ⟨.hbm, 209, rfl⟩
abbrev main_call11_v13 : Ref sig .tc := ⟨.hbm, 210, rfl⟩
abbrev main_call11_v14 : Ref sig .tc := ⟨.hbm, 211, rfl⟩
abbrev main_call11_cst : Ref sig .tc := ⟨.hbm, 212, rfl⟩
abbrev main_call11_v15 : Ref sig .tc := ⟨.hbm, 213, rfl⟩
abbrev main_v24 : Ref sig .tc := ⟨.hbm, 214, rfl⟩
abbrev main_c_11 : Ref sig .tc := ⟨.hbm, 215, rfl⟩
abbrev main_v25 : Ref sig .tc := ⟨.hbm, 216, rfl⟩
abbrev main_v26 : Ref sig .tc := ⟨.hbm, 217, rfl⟩
abbrev main_v27 : Ref sig .tc := ⟨.hbm, 218, rfl⟩
abbrev main_v28 : Ref sig .tc := ⟨.hbm, 219, rfl⟩
abbrev main_v29 : Ref sig .tc := ⟨.hbm, 220, rfl⟩
abbrev main_v30 : Ref sig .tc := ⟨.hbm, 221, rfl⟩
abbrev main_cst : Ref sig .tc := ⟨.hbm, 222, rfl⟩
abbrev main_v31 : Ref sig .tc := ⟨.hbm, 223, rfl⟩
abbrev main_cst_12 : Ref sig .tc := ⟨.hbm, 224, rfl⟩
abbrev main_v32 : Ref sig .tc := ⟨.hbm, 225, rfl⟩
abbrev main_cst_13 : Ref sig .tc := ⟨.hbm, 226, rfl⟩
abbrev main_call12_v0 : Ref sig .tc := ⟨.hbm, 227, rfl⟩
abbrev main_call12_v1 : Ref sig .tc := ⟨.hbm, 228, rfl⟩
abbrev main_v33 : Ref sig .tc := ⟨.hbm, 229, rfl⟩
abbrev main_v34 : Ref sig .tc := ⟨.hbm, 230, rfl⟩
abbrev main_v35 : Ref sig .tc := ⟨.hbm, 231, rfl⟩
abbrev main_v36 : Ref sig .tc := ⟨.hbm, 232, rfl⟩
abbrev main_v37 : Ref sig .tc := ⟨.hbm, 233, rfl⟩
abbrev main_v38 : Ref sig .tc := ⟨.hbm, 234, rfl⟩
abbrev main_v39 : Ref sig .tc := ⟨.hbm, 235, rfl⟩
abbrev main_v40 : Ref sig .tc := ⟨.hbm, 236, rfl⟩
abbrev main_v41 : Ref sig .tc := ⟨.hbm, 237, rfl⟩
abbrev main_v42 : Ref sig .tc := ⟨.hbm, 238, rfl⟩
abbrev main_v43 : Ref sig .tc := ⟨.hbm, 239, rfl⟩
abbrev main_v44 : Ref sig .tc := ⟨.hbm, 240, rfl⟩
abbrev main_v45 : Ref sig .tc := ⟨.hbm, 241, rfl⟩
abbrev main_v46 : Ref sig .tc := ⟨.hbm, 242, rfl⟩
abbrev main_cst_14 : Ref sig .tc := ⟨.hbm, 243, rfl⟩
abbrev main_v47 : Ref sig .tc := ⟨.hbm, 244, rfl⟩
abbrev main_v48 : Ref sig .tc := ⟨.hbm, 245, rfl⟩
abbrev main_cst_15 : Ref sig .tc := ⟨.hbm, 246, rfl⟩
abbrev main_v49 : Ref sig .tc := ⟨.hbm, 247, rfl⟩
abbrev main_v50 : Ref sig .tc := ⟨.hbm, 248, rfl⟩
abbrev main_v51 : Ref sig .tc := ⟨.hbm, 249, rfl⟩
abbrev main_v52 : Ref sig .tc := ⟨.hbm, 250, rfl⟩
abbrev main_v53 : Ref sig .tc := ⟨.hbm, 251, rfl⟩
abbrev main_cst_16 : Ref sig .tc := ⟨.hbm, 252, rfl⟩
abbrev main_v54 : Ref sig .tc := ⟨.hbm, 253, rfl⟩
abbrev main_v55 : Ref sig .tc := ⟨.hbm, 254, rfl⟩
abbrev main_cst_17 : Ref sig .tc := ⟨.hbm, 255, rfl⟩
abbrev main_v56 : Ref sig .tc := ⟨.hbm, 256, rfl⟩
abbrev main_v57 : Ref sig .tc := ⟨.hbm, 257, rfl⟩
abbrev main_v58 : Ref sig .tc := ⟨.hbm, 258, rfl⟩
abbrev main_v59 : Ref sig .tc := ⟨.hbm, 259, rfl⟩
abbrev main_cst_18 : Ref sig .tc := ⟨.hbm, 260, rfl⟩
abbrev main_v60 : Ref sig .tc := ⟨.hbm, 261, rfl⟩
abbrev main_v61 : Ref sig .tc := ⟨.hbm, 262, rfl⟩
abbrev main_v62 : Ref sig .tc := ⟨.hbm, 263, rfl⟩
abbrev main_v63 : Ref sig .tc := ⟨.hbm, 264, rfl⟩
abbrev main_v64 : Ref sig .tc := ⟨.hbm, 265, rfl⟩
abbrev main_v65 : Ref sig .tc := ⟨.hbm, 266, rfl⟩
abbrev main_v66 : Ref sig .tc := ⟨.hbm, 267, rfl⟩
abbrev main_v67 : Ref sig .tc := ⟨.hbm, 268, rfl⟩
abbrev main_v68 : Ref sig .tc := ⟨.hbm, 269, rfl⟩
abbrev main_v69 : Ref sig .tc := ⟨.hbm, 270, rfl⟩
abbrev main_v70 : Ref sig .tc := ⟨.hbm, 271, rfl⟩
abbrev main_v71 : Ref sig .tc := ⟨.hbm, 272, rfl⟩
abbrev main_v72 : Ref sig .tc := ⟨.hbm, 273, rfl⟩
abbrev main_v73 : Ref sig .tc := ⟨.hbm, 274, rfl⟩
abbrev main_v74 : Ref sig .tc := ⟨.hbm, 275, rfl⟩
abbrev main_v75 : Ref sig .tc := ⟨.hbm, 276, rfl⟩

abbrev nD : Nat := 1
abbrev τ : Topo := Topo.v7x

variable {F : FTy → Type} [FloatOps F]
-- ==== Proof.KernelRun.lean ====
/- The value run of the idealised kernel: what the result buffer holds at the end, as the second region's write-backs. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution of the kernel ends with the result buffer holding what the second region's write-backs leave there, and
    with every argument as it was at launch. -/
theorem run : θ_run defs (onTc (τ := τ) (main (F := F))) ⟨m, fun _ => 0, ρ⟩ (fun r => ∀ c : Dev nD,
      r.2.mem ((c.tc : Thread nD τ).loc main_v1) = (dat1 (V2 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1 (by decide))).trans (W3_arr m ρ c 11),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c),
       (h c _ (mem_uc main_arg15 (by decide))).trans (W3_main_arg15 m ρ c)⟩)

end Cert.KernelIdeal.Gen

end
-- ==== Proof.Prep.lean ====
/- What the first region leaves in its seven result arrays, as functions of the arguments. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)

variable {F : FTy → Type} [FloatOps F] [Named F]
variable (m : (ℓ : Loc nD τ sig) → Buf (Elt F) ℓ) (ρ : Dev nD → PrngReg)

/-- Result array 0 of the first region holds what its only grid point leaves there. -/
theorem W2_14 (c : Dev nD) : W2 m ρ c (Proc.devRef .tc (Pipeline.arrRef spec0 14)) = (outsAt0 (V1 m ρ) c t0_0).1 := by
  rw [W2_arr]
  refine (dat0 (V1 m ρ) c).arrAt_eq_of_after_last 14 t0_0 (by decide +kernel) _ fun j => ?_
  blk_simp
  rw [after0_14]

/-- Result array 1 of the first region holds what its only grid point leaves there. -/
theorem W2_15 (c : Dev nD) : W2 m ρ c (Proc.devRef .tc (Pipeline.arrRef spec0 15)) = (outsAt0 (V1 m ρ) c t0_0).2.1 := by
  rw [W2_arr]
  refine (dat0 (V1 m ρ) c).arrAt_eq_of_after_last 15 t0_0 (by decide +kernel) _ fun j => ?_
  blk_simp
  rw [after0_15]

/-- Result array 2 of the first region holds what its only grid point leaves there. -/
theorem W2_16 (c : Dev nD) : W2 m ρ c (Proc.devRef .tc (Pipeline.arrRef spec0 16)) = (outsAt0 (V1 m ρ) c t0_0).2.2.1 := by
  rw [W2_arr]
  refine (dat0 (V1 m ρ) c).arrAt_eq_of_after_last 16 t0_0 (by decide +kernel) _ fun j => ?_
  blk_simp
  rw [after0_16]

/-- Result array 3 of the first region holds what its only grid point leaves there. -/
theorem W2_17 (c : Dev nD) : W2 m ρ c (Proc.devRef .tc (Pipeline.arrRef spec0 17)) = (outsAt0 (V1 m ρ) c t0_0).2.2.2.1 := by
  rw [W2_arr]
  refine (dat0 (V1 m ρ) c).arrAt_eq_of_after_last 17 t0_0 (by decide +kernel) _ fun j => ?_
  blk_simp
  rw [after0_17]

/-- Result array 4 of the first region holds what its only grid point leaves there. -/
theorem W2_18 (c : Dev nD) : W2 m ρ c (Proc.devRef .tc (Pipeline.arrRef spec0 18)) = (outsAt0 (V1 m ρ) c t0_0).2.2.2.2.1 := by
  rw [W2_arr]
  refine (dat0 (V1 m ρ) c).arrAt_eq_of_after_last 18 t0_0 (by decide +kernel) _ fun j => ?_
  blk_simp
  rw [after0_18]

/-- Result array 5 of the first region holds what its only grid point leaves there. -/
theorem W2_19 (c : Dev nD) : W2 m ρ c (Proc.devRef .tc (Pipeline.arrRef spec0 19)) = (outsAt0 (V1 m ρ) c t0_0).2.2.2.2.2.1 := by
  rw [W2_arr]
  refine (dat0 (V1 m ρ) c).arrAt_eq_of_after_last 19 t0_0 (by decide +kernel) _ fun j => ?_
  blk_simp
  rw [after0_19]

/-- Result array 6 of the first region holds what its only grid point leaves there. -/
theorem W2_20 (c : Dev nD) : W2 m ρ c (Proc.devRef .tc (Pipeline.arrRef spec0 20)) = (outsAt0 (V1 m ρ) c t0_0).2.2.2.2.2.2 := by
  rw [W2_arr]
  refine (dat0 (V1 m ρ) c).arrAt_eq_of_after_last 20 t0_0 (by decide +kernel) _ fun j => ?_
  blk_simp
  rw [after0_20]

/-- A load of the whole scratch table reads what the stores left. -/
theorem readCov_scratch (L : List (View.Piece (Elt F) S68x176 .f32)) :
    (View.whole cc0_scratch0).readCov L (Rect.unit (s := S68x176) ![0, 0] ![68, 176] inb_S68x176_S68x176_0_0).toLoadRect
      = View.canon L := by
  rw [View.readCov_eq_canon']
  funext j
  refine congrArg (View.canon L) (funext fun a => Fin.ext ?_)
  show (![0, 0] : Fin 2 → ℕ) a + 1 * (j a).val = (j a).val
  have h0 : (![0, 0] : Fin 2 → ℕ) a = 0 := by fin_cases a <;> rfl
  rw [h0]; omega

/-- The scratch table after the first region's stores: six segments of rows, each in its own columns, over zeros. -/
def prepE (x0 : Vec F S15x32 .f32) (x1 : Vec F S21x32 .f32) (x2 : Vec F S11x16 .f32) (x3 : Vec F S9x16 .f32)
    (x4 : Vec F S10x16 .f32) (x5 : Vec F S2x32 .f32) (x6 : Vec F S32x32 .f32) (x7 : Vec F S32 .f32) : Vec F S68x176 .f32 :=
  View.canon (Val := Elt F) (s := S68x176) (e := .f32)
    [⟨Rect.unit ![67, 112] ![1, 32] inb_S68x176_S1x32_67_112,
        k0_pay16 (k0_pay7 (View.ld x5 (Rect.unit ![1, 0] ![1, 32] inb_S2x32_S1x32_1_0)) x6 x7)⟩,
      ⟨Rect.unit ![66, 112] ![1, 32] inb_S68x176_S1x32_66_112, k0_pay15 (k0_pay8 x7)⟩,
      ⟨Rect.unit ![56, 96] ![10, 16] inb_S68x176_S10x16_56_96, k0_pay14 x4⟩,
      ⟨Rect.unit ![47, 80] ![9, 16] inb_S68x176_S9x16_47_80, k0_pay13 x3⟩,
      ⟨Rect.unit ![36, 64] ![11, 16] inb_S68x176_S11x16_36_64, k0_pay12 x2⟩,
      ⟨Rect.unit ![15, 32] ![21, 32] inb_S68x176_S21x32_15_32, k0_pay11 x1⟩,
      ⟨Rect.unit ![0, 0] ![15, 32] inb_S68x176_S15x32_0_0, k0_pay10 x0⟩,
      ⟨Rect.unit ![0, 0] ![68, 176] inb_S68x176_S68x176_0_0, k0_pay9⟩]

section
variable (V : (c : Dev nD) → (b : Ref sig .tc) → Buf (Elt F) ((c : Thread nD τ).loc b)) (c : Dev nD) (t : Fin cfg0.N)

/-- The scratch table at a grid point, from the point's blocks. -/
abbrev blkE : Vec F S68x176 .f32 :=
  prepE (iblk0 V c 0 t) (iblk0 V c 1 t) (iblk0 V c 2 t) (iblk0 V c 3 t) (iblk0 V c 4 t) (iblk0 V c 5 t) (iblk0 V c 6 t)
    (iblk0 V c 7 t)

/-- The first region's table result, in terms of the point's blocks. -/
theorem outs0_14 : (outsAt0 V c t).1 = View.canon (Val := Elt F) (s := S128x512) (e := .f32)
    [⟨Rect.unit ![0, 0] ![68, 512] inb_S128x512_S68x512_0_0, k0_pay18 (k0_pay6 (iblk0 V c 12 t) (iblk0 V c 10 t)) (blkE V c t)⟩,
      ⟨Rect.unit ![0, 0] ![128, 512] inb_S128x512_S128x512_0_0, k0_pay17⟩] := by
  unfold outsAt0
  frame_out
  simp only [read_unread_whole]
  rw [readCov_scratch]
  rfl

/-- The first region's row sums result, in terms of the point's blocks. -/
theorem outs0_15 : (outsAt0 V c t).2.1 = View.canon (Val := Elt F) (s := S128x8) (e := .f32)
    [⟨Rect.unit ![0, 1] ![68, 1] inb_S128x8_S68x1_0_1, k0_pay20 (blkE V c t)⟩,
      ⟨Rect.unit ![0, 0] ![68, 1] inb_S128x8_S68x1_0_0, k0_pay19 (blkE V c t)⟩,
      ⟨Rect.unit ![0, 0] ![128, 8] inb_S128x8_S128x8_0_0, k0_pay21⟩] := by
  unfold outsAt0
  frame_out
  simp only [read_unread_whole]
  rw [readCov_scratch]
  rfl

/-- The first region's continuous weights result, in terms of the point's blocks. -/
theorem outs0_16 : (outsAt0 V c t).2.2.1 = k0_pay1 (k0_pay6 (iblk0 V c 12 t) (iblk0 V c 10 t)) := by
  unfold outsAt0
  frame_out
  simp only [read_unread_whole]

/-- The first region's padded continuous projection result, in terms of the point's blocks. -/
theorem outs0_17 : (outsAt0 V c t).2.2.2.1 = View.canon (Val := Elt F) (s := S32x11) (e := .f32)
    [⟨Rect.unit ![0, 5] ![32, 6] inb_S32x11_S32x6_0_5, (iblk0 V c 8 t : Vec F S32x6 .f32)⟩,
      ⟨Rect.unit ![0, 0] ![32, 11] inb_S32x11_S32x11_0_0, k0_pay2⟩] := by
  unfold outsAt0
  frame_out
  simp only [read_unread_whole]

/-- The first region's continuous bias result, in terms of the point's blocks. -/
theorem outs0_18 : (outsAt0 V c t).2.2.2.2.1 = k0_pay3 (iblk0 V c 9 t : Vec F S32 .f32) := by
  unfold outsAt0
  frame_out
  simp only [read_unread_whole]

/-- The first region's weight sums result, in terms of the point's blocks. -/
theorem outs0_19 : (outsAt0 V c t).2.2.2.2.2.1 = k0_pay4 (k0_pay6 (iblk0 V c 12 t) (iblk0 V c 10 t)) := by
  unfold outsAt0
  frame_out
  simp only [read_unread_whole]

/-- The first region's bias result, in terms of the point's blocks. -/
theorem outs0_20 : (outsAt0 V c t).2.2.2.2.2.2 = k0_pay5 (iblk0 V c 11 t) (iblk0 V c 12 t) (iblk0 V c 13 t) := by
  unfold outsAt0
  frame_out
  simp only [read_unread_whole]

/-- The only block of window 0 is its whole array. -/
theorem iblk0_0 : iblk0 V c 0 t0_0 = V c main_arg2 := by
  blk_ext! [iblk0, show win0_0.index t0_0 = ![0, 0] by decide +kernel]

/-- The only block of window 1 is its whole array. -/
theorem iblk0_1 : iblk0 V c 1 t0_0 = V c main_arg3 := by
  blk_ext! [iblk0, show win0_1.index t0_0 = ![0, 0] by decide +kernel]

/-- The only block of window 2 is its whole array. -/
theorem iblk0_2 : iblk0 V c 2 t0_0 = V c main_arg4 := by
  blk_ext! [iblk0, show win0_2.index t0_0 = ![0, 0] by decide +kernel]

/-- The only block of window 3 is its whole array. -/
theorem iblk0_3 : iblk0 V c 3 t0_0 = V c main_arg5 := by
  blk_ext! [iblk0, show win0_3.index t0_0 = ![0, 0] by decide +kernel]

/-- The only block of window 4 is its whole array. -/
theorem iblk0_4 : iblk0 V c 4 t0_0 = V c main_arg6 := by
  blk_ext! [iblk0, show win0_4.index t0_0 = ![0, 0] by decide +kernel]

/-- The only block of window 5 is its whole array. -/
theorem iblk0_5 : iblk0 V c 5 t0_0 = V c main_arg7 := by
  blk_ext! [iblk0, show win0_5.index t0_0 = ![0, 0] by decide +kernel]

/-- The only block of window 6 is its whole array. -/
theorem iblk0_6 : iblk0 V c 6 t0_0 = V c main_arg8 := by
  blk_ext! [iblk0, show win0_6.index t0_0 = ![0, 0] by decide +kernel]

/-- The only block of window 7 is its whole array. -/
theorem iblk0_7 : iblk0 V c 7 t0_0 = V c main_arg9 := by
  blk_ext! [iblk0, show win0_7.index t0_0 = ![0] by decide +kernel]

/-- The only block of window 8 is its whole array. -/
theorem iblk0_8 : iblk0 V c 8 t0_0 = V c main_arg10 := by
  blk_ext! [iblk0, show win0_8.index t0_0 = ![0, 0] by decide +kernel]

/-- The only block of window 9 is its whole array. -/
theorem iblk0_9 : iblk0 V c 9 t0_0 = V c main_arg11 := by
  blk_ext! [iblk0, show win0_9.index t0_0 = ![0] by decide +kernel]

/-- The only block of window 10 is its whole array. -/
theorem iblk0_10 : iblk0 V c 10 t0_0 = V c main_arg12 := by
  blk_ext! [iblk0, show win0_10.index t0_0 = ![0] by decide +kernel]

/-- The only block of window 11 is its whole array. -/
theorem iblk0_11 : iblk0 V c 11 t0_0 = V c main_arg13 := by
  blk_ext! [iblk0, show win0_11.index t0_0 = ![0] by decide +kernel]

/-- The only block of window 12 is its whole array. -/
theorem iblk0_12 : iblk0 V c 12 t0_0 = V c main_arg14 := by
  blk_ext! [iblk0, show win0_12.index t0_0 = ![0, 0] by decide +kernel]

/-- The only block of window 13 is its whole array. -/
theorem iblk0_13 : iblk0 V c 13 t0_0 = V c main_arg15 := by
  blk_ext! [iblk0, show win0_13.index t0_0 = ![0] by decide +kernel]

end

end Cert.KernelIdeal.Gen

end
-- ==== Proof.KernelVal.lean ====
/- The kernel's result at an index, in terms of the contents the second region reads. -/
module

public import proofs.«01_k».proof.Proof.Prep
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)
open scoped BigOperators

/-- The named reciprocal of the row length. -/
abbrev kap : EReal := Named.named (F := Ideal) κ "inv_dim" (φ := .f32) 0x3BBA2E8C#32

/-- The value that column `l` of a row's indicator is compared with `l`: the position chosen in the segment of `l`. -/
def spread (u v : Fin 5 → BitVec 32) (sel : Vec Ideal S6x128 .f32) (xs : Fin 11 → EReal) (rs : Fin 8 → BitVec 32) (l : Fin 128) : EReal :=
  (∑ x : Fin 5, FloatOps.sitofp (F := Ideal) .f32 (IntOp.addi (IntOp.minsi (u x)
      (IntOp.maxsi 0#32 (FloatOps.fptosi (F := Ideal) (φ := .f32) 32 (xs ⟨x.val, by omega⟩)))) (v x)) * sel (ix2 ⟨x.val, by omega⟩ l)
    + ∑ _x : Fin 1, FloatOps.sitofp (F := Ideal) .f32 (IntOp.addi 66#32 (BitVec.setWidth 32
        (IntOp.cmpi .sge (Finset.fold IntOp.maxsi 2147483648#32 rs Finset.univ) 1#32))) * sel (ix2 5 l) : EReal)

/-- A row's indicator at column `l`. -/
def featE (u v : Fin 5 → BitVec 32) (sel : Vec Ideal S6x128 .f32) (xs : Fin 11 → EReal) (rs : Fin 8 → BitVec 32) (l : Fin 128) : EReal :=
  FloatOps.sitofp (F := Ideal) .f32 (BitVec.setWidth 32 (BitVec.ofBool (decide
    (spread u v sel xs rs l = FloatOps.sitofp (F := Ideal) .f32 (BitVec.ofNat 32 l.val)))))

/-- A row's continuous projection. -/
def contE (w : Vec Ideal S32x11 .f32) (b : Vec Ideal S1x32 .f32) (xs : Fin 11 → EReal) (q : Fin 32) : EReal :=
  ∑ x, xs x * w (ix2 q x) + b (ix2 0 q)

/-- A row's result at output column `o`, from its indicator and its continuous projection. -/
def outE (f : Fin 128 → EReal) (ec : Fin 32 → EReal) (sq : Vec Ideal S128x8 .f32) (T : Vec Ideal S128x512 .f32)
    (wgc : Vec Ideal S512x32 .f32) (ws bi : Vec Ideal S1x512 .f32) (o : Fin 512) : EReal :=
  (∑ x, f x * T (ix2 x o) + ∑ x, ec x * wgc (ix2 o x) - (∑ x, f x * sq (ix2 x 0) + ∑ x, ec x) * kap * ws (ix2 0 o))
    * Ideal.rsqrt ((∑ x, f x * sq (ix2 x 1) + ∑ x, ec x * ec x) * kap
        - ((∑ x, f x * sq (ix2 x 0) + ∑ x, ec x) * kap) * ((∑ x, f x * sq (ix2 x 0) + ∑ x, ec x) * kap)
        + Ideal.ofBits .f32 0x3727C5AC#32)
    + bi (ix2 0 o)

/-- A block's result at an index, from the block's contents. -/
theorem out_apply (x0 : Vec Ideal S32x50x11 .f32) (x1 : Vec Ideal S32x50x8 .i32) (x3 : Vec Ideal S6x128 .f32)
    (x4 : Vec Ideal S128x512 .f32) (x5 : Vec Ideal S128x8 .f32) (x6 : Vec Ideal S512x32 .f32) (x7 : Vec Ideal S32x11 .f32)
    (x8 : Vec Ideal S1x32 .f32) (x9 x10 : Vec Ideal S1x512 .f32) (v6 v7 : Vec Ideal S1x5 .i32)
    (p : Fin 32) (q : Fin 50) (o : Fin 512) :
    k1_pay4 (F := Ideal) (k1_pay2 x0 x1 v6 v7 x3) (k1_pay3 x0 x7 x8) x5 x4 x6 x9 x10 (ix3 p q o)
      = outE (featE (fun x => v6 (ix2 0 x)) (fun x => v7 (ix2 0 x)) x3 (fun x => x0 (ix3 p q x)) fun x => x1 (ix3 p q x)) (contE x7 x8 fun x => x0 (ix3 p q x)) x5 x4 x6 x9 x10 o := by
  have hp := p.isLt
  have hq := q.isLt
  have hr : p.val * 50 + q.val < 1600 := by omega
  have e1 : (⟨(p.val * 50 + q.val) / 50, by omega⟩ : Fin 32) = p := Fin.ext (by show (p.val * 50 + q.val) / 50 = p.val; omega)
  have e2 : (⟨(p.val * 50 + q.val) % 50, by omega⟩ : Fin 50) = q := Fin.ext (by show (p.val * 50 + q.val) % 50 = q.val; omega)
  have hf : ∀ l : Fin 128, k1_pay2 (F := Ideal) x0 x1 v6 v7 x3 (ix2 (⟨p.val * 50 + q.val, hr⟩ : Fin 1600) l)
      = featE (fun x => v6 (ix2 0 x)) (fun x => v7 (ix2 0 x)) x3 (fun x => x0 (ix3 p q x)) (fun x => x1 (ix3 p q x)) l := fun l => by
    pointwise [k1_pay2, k1_pay1]
    refine Eq.trans (b := featE (fun x => v6 (ix2 0 x)) (fun x => v7 (ix2 0 x)) x3 (fun x => x0 (ix3 p q x))
      (fun x => x1 (ix3 (⟨(p.val * 50 + q.val) / 50, by omega⟩ : Fin 32) (⟨(p.val * 50 + q.val) % 50, by omega⟩ : Fin 50) x)) l) rfl ?_
    rw [e1, e2]
  have hc : ∀ l : Fin 32, k1_pay3 (F := Ideal) x0 x7 x8 (ix2 (⟨p.val * 50 + q.val, hr⟩ : Fin 1600) l)
      = contE x7 x8 (fun x => x0 (ix3 p q x)) l := fun l => by
    pointwise [k1_pay3, k1_pay1]
    rfl
  generalize k1_pay2 (F := Ideal) x0 x1 v6 v7 x3 = f at hf ⊢
  generalize k1_pay3 (F := Ideal) x0 x7 x8 = ec at hc ⊢
  pointwise [k1_pay4]
  simp only [hf, hc]
  rfl

section
variable (V : (c : Dev nD) → (b : Ref sig .tc) → Buf (Elt Ideal) ((c : Thread nD τ).loc b)) (c : Dev nD) (t : Fin cfg1.N)

/-- Every block of window 2 is its whole array. -/
theorem iblk1_2 : iblk1 V c 2 t = V c main_c := by
  have e := (by decide +kernel : ∀ t : Fin cfg1.N, win1_2.index t = ![0, 0]) t
  blk_ext! [iblk1, e]

/-- Every block of window 3 is its whole array. -/
theorem iblk1_3 : iblk1 V c 3 t = V c main_cst := by
  have e := (by decide +kernel : ∀ t : Fin cfg1.N, win1_3.index t = ![0, 0]) t
  blk_ext! [iblk1, e]

/-- Every block of window 4 is its whole array. -/
theorem iblk1_4 : iblk1 V c 4 t = V c main_v0_0 := by
  have e := (by decide +kernel : ∀ t : Fin cfg1.N, win1_4.index t = ![0, 0]) t
  blk_ext! [iblk1, e]

/-- Every block of window 5 is its whole array. -/
theorem iblk1_5 : iblk1 V c 5 t = V c main_v0_1 := by
  have e := (by decide +kernel : ∀ t : Fin cfg1.N, win1_5.index t = ![0, 0]) t
  blk_ext! [iblk1, e]

/-- Every block of window 6 is its whole array. -/
theorem iblk1_6 : iblk1 V c 6 t = V c main_v0_2 := by
  have e := (by decide +kernel : ∀ t : Fin cfg1.N, win1_6.index t = ![0, 0]) t
  blk_ext! [iblk1, e]

/-- Every block of window 7 is its whole array. -/
theorem iblk1_7 : iblk1 V c 7 t = V c main_v0_3 := by
  have e := (by decide +kernel : ∀ t : Fin cfg1.N, win1_7.index t = ![0, 0]) t
  blk_ext! [iblk1, e]

/-- Every block of window 8 is its whole array. -/
theorem iblk1_8 : iblk1 V c 8 t = V c main_v0_4 := by
  have e := (by decide +kernel : ∀ t : Fin cfg1.N, win1_8.index t = ![0, 0]) t
  blk_ext! [iblk1, e]

/-- Every block of window 9 is its whole array. -/
theorem iblk1_9 : iblk1 V c 9 t = V c main_v0_5 := by
  have e := (by decide +kernel : ∀ t : Fin cfg1.N, win1_9.index t = ![0, 0]) t
  blk_ext! [iblk1, e]

/-- Every block of window 10 is its whole array. -/
theorem iblk1_10 : iblk1 V c 10 t = V c main_v0_6 := by
  have e := (by decide +kernel : ∀ t : Fin cfg1.N, win1_10.index t = ![0, 0]) t
  blk_ext! [iblk1, e]

end

variable (m : (ℓ : Loc nD τ sig) → Buf (Elt Ideal) ℓ) (ρ : Dev nD → PrngReg)

set_option maxHeartbeats 2000000 in
/-- The kernel's result at an index, from the contents at the second region's entry. -/
theorem arr11_apply (c : Dev nD) (b : Fin 1024) (s : Fin 50) (o : Fin 512) :
    ((dat1 (V2 m ρ) c).arrAt 11 cfg1.N : Vec Ideal S1024x50x512 .f32) (ix3 b s o)
      = outE (featE (fun x => (V2 m ρ c main_c : Vec Ideal S2x8 .i32) (ix2 0 ⟨x.val, by omega⟩)) (fun x => (V2 m ρ c main_c : Vec Ideal S2x8 .i32) (ix2 1 ⟨x.val, by omega⟩)) (V2 m ρ c main_cst) (fun x => (V2 m ρ c main_arg0 : Vec Ideal S1024x50x11 .f32) (ix3 b s x))
            fun x => (V2 m ρ c main_arg1 : Vec Ideal S1024x50x8 .i32) (ix3 b s x))
          (contE (V2 m ρ c main_v0_3) (V2 m ρ c main_v0_4) fun x => (V2 m ρ c main_arg0 : Vec Ideal S1024x50x11 .f32) (ix3 b s x))
          (V2 m ρ c main_v0_1) (V2 m ρ c main_v0_0) (V2 m ρ c main_v0_2) (V2 m ρ c main_v0_5) (V2 m ρ c main_v0_6) o := by
  have key : ((dat1 (V2 m ρ) c).arrAt 11 cfg1.N : Vec Ideal S1024x50x512 .f32) = fun i : S1024x50x512.Idx =>
      outE (featE (fun x => (V2 m ρ c main_c : Vec Ideal S2x8 .i32) (ix2 0 ⟨x.val, by omega⟩)) (fun x => (V2 m ρ c main_c : Vec Ideal S2x8 .i32) (ix2 1 ⟨x.val, by omega⟩)) (V2 m ρ c main_cst) (fun x => (V2 m ρ c main_arg0 : Vec Ideal S1024x50x11 .f32) (ix3 (i 0) (i 1) x))
            fun x => (V2 m ρ c main_arg1 : Vec Ideal S1024x50x8 .i32) (ix3 (i 0) (i 1) x))
          (contE (V2 m ρ c main_v0_3) (V2 m ρ c main_v0_4) fun x => (V2 m ρ c main_arg0 : Vec Ideal S1024x50x11 .f32) (ix3 (i 0) (i 1) x))
          (V2 m ρ c main_v0_1) (V2 m ρ c main_v0_0) (V2 m ρ c main_v0_2) (V2 m ρ c main_v0_5) (V2 m ρ c main_v0_6) (i 2) := by
    refine (dat1 (V2 m ρ) c).arrAt_eq_of_covers 11 _ (by decide +kernel) fun t hf y => ?_
    blk_simp
    rw [after1_11]
    frame_out
    have e0 := (by decide +kernel : ∀ t : Fin cfg1.N, win1_0.index t = ![(grid1.coords t 0).val, 0, 0]
      ∧ win1_1.index t = ![(grid1.coords t 0).val, 0, 0] ∧ win1_11.index t = ![(grid1.coords t 0).val, 0, 0]) t
    obtain ⟨p, q, o, rfl⟩ : ∃ (p : Fin 32) (q : Fin 50) (o : Fin 512), y = ix3 p q o :=
      ⟨y 0, y 1, y 2, by funext d; fin_cases d <;> rfl⟩
    refine (out_apply _ _ _ _ _ _ _ _ _ _ _ _ p q o).trans ?_
    rw [iblk1_3, iblk1_4, iblk1_5, iblk1_6, iblk1_7, iblk1_8, iblk1_9, iblk1_10]
    rw [iblk1_2]
    obtain ⟨e0, e1, e11⟩ := e0
    have g0 : ∀ x : Fin 11, iblk1 (V2 m ρ) c 0 t (ix3 p q x) = (V2 m ρ c main_arg0 : Vec Ideal S1024x50x11 .f32)
        (ix3 (((View.whole main_v1).slice (win1_11.rect t)).emb (ix3 p q o) 0) (((View.whole main_v1).slice (win1_11.rect t)).emb (ix3 p q o) 1) x) :=
      fun x => by blk_ext! [iblk1, e0, e11]
    have g1 : ∀ x : Fin 8, iblk1 (V2 m ρ) c 1 t (ix3 p q x) = (V2 m ρ c main_arg1 : Vec Ideal S1024x50x8 .i32)
        (ix3 (((View.whole main_v1).slice (win1_11.rect t)).emb (ix3 p q o) 0) (((View.whole main_v1).slice (win1_11.rect t)).emb (ix3 p q o) 1) x) :=
      fun x => by blk_ext! [iblk1, e1, e11]
    have g2 : (((View.whole main_v1).slice (win1_11.rect t)).emb (ix3 p q o) 2).val = o.val := by
      blk_simp [e11]
    have g3 : (((View.whole main_v1).slice (win1_11.rect t)).emb (ix3 p q o) 2 : Fin 512) = o := Fin.ext g2
    have k0 : ∀ x : Fin 5, (View.ld (Val := Elt Ideal) (e' := .i32) (V2 m ρ c main_c : Vec Ideal S2x8 .i32) r1_2 : Vec Ideal S1x5 .i32) (ix2 0 x)
        = (V2 m ρ c main_c : Vec Ideal S2x8 .i32) (ix2 0 ⟨x.val, by omega⟩) := fun x => by
      refine congrArg (V2 m ρ c main_c : Vec Ideal S2x8 .i32) (funext fun d => Fin.ext ?_)
      fin_cases d
      · rfl
      · show 0 + 1 * x.val = x.val; omega
    have k1 : ∀ x : Fin 5, (View.ld (Val := Elt Ideal) (e' := .i32) (V2 m ρ c main_c : Vec Ideal S2x8 .i32) r1_3 : Vec Ideal S1x5 .i32) (ix2 0 x)
        = (V2 m ρ c main_c : Vec Ideal S2x8 .i32) (ix2 1 ⟨x.val, by omega⟩) := fun x => by
      refine congrArg (V2 m ρ c main_c : Vec Ideal S2x8 .i32) (funext fun d => Fin.ext ?_)
      fin_cases d
      · rfl
      · show 0 + 1 * x.val = x.val; omega
    rw [funext g0, funext g1, funext k0, funext k1, g3]
  rw [key]
  rfl

end Cert.KernelIdeal.Gen

end
-- ==== Proof.RefOut.lean ====
/- The reference's result at an index, over the concatenated row. -/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Tactic
open scoped BigOperators

variable (V0 : Valuation τ sig (Elt Ideal))

/-- The normalised and projected row: the mean and the variance over `n`, the scale `g`, the shift `bt`, the weights `w`. -/
def lnE (h : Fin 176 → EReal) (g bt : Fin 176 → EReal) (w : Fin 176 → EReal) (bi : EReal) (n ε : EReal) : EReal :=
  (∑ x, ((Ideal.div (h x - Ideal.div (∑ j, h j) n)
      (Ideal.sqrt (Ideal.div (∑ j, (h j - Ideal.div (∑ j, h j) n) * (h j - Ideal.div (∑ j, h j) n)) n + ε))) * g x + bt x) * w x) + bi

set_option maxHeartbeats 2000000 in
/-- The reference's result at an index. -/
theorem out_apply (b : Fin 1024) (s : Fin 50) (o : Fin 512) :
    (addf (Host.dotGeneral (F := Ideal) (φ₁ := .f32) (φ₂ := .f32) dot_S1024x50x176_S176x512_S1024x50x512_2_0_01_1_n_n none (addf (mulf (Host.divf (subf (res_main_v46 V0) (broadcastInDim S1024x50x176 ![0, 1, 2] bcast_S1024x50x1_S1024x50x176_0_1_2 (res_main_v50 V0))) (broadcastInDim S1024x50x176 ![0, 1, 2] bcast_S1024x50x1_S1024x50x176_0_1_2 (Host.sqrt (addf (Host.divf (broadcastInDim S1024x50x1 ![0, 1] bcast_S1024x50_S1024x50x1_0_1 (Host.reduceAdd (mulf (res_main_v52 V0) (res_main_v52 V0)) (constant S_ .f32 0x00000000#32) reducesTo_S1024x50x176_S1024x50_d2 h_S_)) (broadcastInDim S1024x50x1 ![] bcast_S_S1024x50x1 (constant S_ .f32 0x43300000#32))) (broadcastInDim S1024x50x1 ![] bcast_S_S1024x50x1 (constant S_ .f32 0x3727C5AC#32)))))) (broadcastInDim S1024x50x176 ![0, 1, 2] bcast_S1x1x176_S1024x50x176_0_1_2 (broadcastInDim S1x1x176 ![2] bcast_S176_S1x1x176_2 (V0 (Proc.devRef .tc main_arg12) : Vec Ideal S176 .f32)))) (broadcastInDim S1024x50x176 ![0, 1, 2] bcast_S1x1x176_S1024x50x176_0_1_2 (broadcastInDim S1x1x176 ![2] bcast_S176_S1x1x176_2 (V0 (Proc.devRef .tc main_arg13) : Vec Ideal S176 .f32)))) (transpose S176x512 [1, 0] (V0 (Proc.devRef .tc main_arg14) : Vec Ideal S512x176 .f32) transposes_S512x176_S176x512_1_0)) (broadcastInDim S1024x50x512 ![0, 1, 2] bcast_S1x1x512_S1024x50x512_0_1_2 (broadcastInDim S1x1x512 ![2] bcast_S512_S1x1x512_2 (V0 (Proc.devRef .tc main_arg15) : Vec Ideal S512 .f32))) : Vec Ideal S1024x50x512 .f32) (ix3 b s o)
      = lnE (fun j => (res_main_v46 V0 : Vec Ideal S1024x50x176 .f32) (ix3 b s j))
          (fun j => (V0 (Proc.devRef .tc main_arg12) : Vec Ideal S176 .f32) (ix1 j))
          (fun j => (V0 (Proc.devRef .tc main_arg13) : Vec Ideal S176 .f32) (ix1 j))
          (fun j => (V0 (Proc.devRef .tc main_arg14) : Vec Ideal S512x176 .f32) (ix2 o j))
          ((V0 (Proc.devRef .tc main_arg15) : Vec Ideal S512 .f32) (ix1 o))
          (Ideal.ofBits .f32 0x43300000#32) (Ideal.ofBits .f32 0x3727C5AC#32) := by
  pointwise [res_main_v52, res_main_v50]
  rfl

end Cert.ReferenceIdeal.Value

end
-- ==== Proof.RealMath.lean ====
/- The kernel's table look-up over the reals: a row of the table of segments, the indicator of the chosen rows, and the
   concatenated row that they add up to. -/
module

public import Idealize.ShloMosaic.Lib.Pointwise

@[expose] public section

noncomputable section

namespace Cert.RowMath

open scoped BigOperators

/-- The reference's concatenated row: five looked-up embeddings, the reading embedding, the continuous projection. -/
def hrow (P2 P3 P4 P5 P6 : ℕ → ℕ → ℝ) (kn ec : ℕ → ℝ) (i0 i1 i2 i3 i4 : ℕ) (j : ℕ) : ℝ :=
  if j < 32 then P2 i0 j else if j < 64 then P3 i1 (j - 32) else if j < 80 then P4 i2 (j - 64)
  else if j < 96 then P5 i3 (j - 80) else if j < 112 then P6 i4 (j - 96) else if j < 144 then kn (j - 112) else ec (j - 144)

/-- Row `l` of the kernel's table of segments, at column `j`. -/
def erow (P2 P3 P4 P5 P6 : ℕ → ℕ → ℝ) (k0 k1 : ℕ → ℝ) (l j : ℕ) : ℝ :=
  if l < 15 then (if j < 32 then P2 l j else 0)
  else if l < 36 then (if 32 ≤ j ∧ j < 64 then P3 (l - 15) (j - 32) else 0)
  else if l < 47 then (if 64 ≤ j ∧ j < 80 then P4 (l - 36) (j - 64) else 0)
  else if l < 56 then (if 80 ≤ j ∧ j < 96 then P5 (l - 47) (j - 80) else 0)
  else if l < 66 then (if 96 ≤ j ∧ j < 112 then P6 (l - 56) (j - 96) else 0)
  else if l < 67 then (if 112 ≤ j ∧ j < 144 then k0 (j - 112) else 0)
  else if l < 68 then (if 112 ≤ j ∧ j < 144 then k1 (j - 112) else 0)
  else 0

/-- The chosen row of the segment that row `l` lies in. -/
def chosen (i0 i1 i2 i3 i4 kb : ℕ) (l : ℕ) : ℕ :=
  if l < 15 then i0 else if l < 36 then i1 + 15 else if l < 47 then i2 + 36 else if l < 56 then i3 + 47
  else if l < 66 then i4 + 56 else if l < 68 then 66 + kb else 0

/-- The indicator of the six chosen rows. -/
def hot (i0 i1 i2 i3 i4 kb : ℕ) (l : ℕ) : ℝ := if chosen i0 i1 i2 i3 i4 kb l = l then 1 else 0

set_option maxHeartbeats 4000000 in
/-- The indicator picks, in each column before the last 32, the concatenated row's entry. -/
theorem sum_hot_lt (P2 P3 P4 P5 P6 : ℕ → ℕ → ℝ) (k0 k1 kn ec : ℕ → ℝ) (i0 i1 i2 i3 i4 kb : ℕ)
    (h0 : i0 < 15) (h1 : i1 < 21) (h2 : i2 < 11) (h3 : i3 < 9) (h4 : i4 < 10) (hkb : kb < 2)
    (hkn : ∀ q, kn q = if kb = 0 then k0 q else k1 q) (φ : ℝ → ℝ) (hφ : φ 0 = 0) (j : ℕ) (hj : j < 144) :
    ∑ l : Fin 128, hot i0 i1 i2 i3 i4 kb l.val * φ (erow P2 P3 P4 P5 P6 k0 k1 l.val j)
      = φ (hrow P2 P3 P4 P5 P6 kn ec i0 i1 i2 i3 i4 j) := by
  obtain ⟨r, hr, hr1, hr2, hr3⟩ : ∃ r : ℕ, r < 128 ∧ chosen i0 i1 i2 i3 i4 kb r = r
      ∧ erow P2 P3 P4 P5 P6 k0 k1 r j = hrow P2 P3 P4 P5 P6 kn ec i0 i1 i2 i3 i4 j
      ∧ ∀ l, l ≠ r → chosen i0 i1 i2 i3 i4 kb l ≠ l ∨ erow P2 P3 P4 P5 P6 k0 k1 l j = 0 := by
    by_cases c0 : j < 32
    · refine ⟨i0, by omega, by unfold chosen; split_ifs <;> omega, ?_, fun l hl => ?_⟩
      · unfold erow hrow; rw [if_pos h0, if_pos c0, if_pos c0]
      · by_cases c : l < 15
        · left; unfold chosen; rw [if_pos c]; omega
        · right; unfold erow; split_ifs <;> first | rfl | omega
    by_cases c1 : j < 64
    · refine ⟨i1 + 15, by omega, by unfold chosen; split_ifs <;> omega, ?_, fun l hl => ?_⟩
      · unfold erow hrow; rw [if_neg (by omega), if_pos (by omega), if_pos (by omega), if_neg c0, if_pos c1, Nat.add_sub_cancel]
      · by_cases c : 15 ≤ l ∧ l < 36
        · left; unfold chosen; split_ifs <;> omega
        · right; unfold erow; split_ifs <;> first | rfl | omega
    by_cases c2 : j < 80
    · refine ⟨i2 + 36, by omega, by unfold chosen; split_ifs <;> omega, ?_, fun l hl => ?_⟩
      · unfold erow hrow; rw [if_neg (by omega), if_neg (by omega), if_pos (by omega), if_pos (by omega), if_neg c0, if_neg c1, if_pos c2, Nat.add_sub_cancel]
      · by_cases c : 36 ≤ l ∧ l < 47
        · left; unfold chosen; split_ifs <;> omega
        · right; unfold erow; split_ifs <;> first | rfl | omega
    by_cases c3 : j < 96
    · refine ⟨i3 + 47, by omega, by unfold chosen; split_ifs <;> omega, ?_, fun l hl => ?_⟩
      · unfold erow hrow; rw [if_neg (by omega), if_neg (by omega), if_neg (by omega), if_pos (by omega), if_pos (by omega), if_neg c0, if_neg c1, if_neg c2, if_pos c3, Nat.add_sub_cancel]
      · by_cases c : 47 ≤ l ∧ l < 56
        · left; unfold chosen; split_ifs <;> omega
        · right; unfold erow; split_ifs <;> first | rfl | omega
    by_cases c4 : j < 112
    · refine ⟨i4 + 56, by omega, by unfold chosen; split_ifs <;> omega, ?_, fun l hl => ?_⟩
      · unfold erow hrow; rw [if_neg (by omega), if_neg (by omega), if_neg (by omega), if_neg (by omega), if_pos (by omega), if_pos (by omega), if_neg c0, if_neg c1, if_neg c2, if_neg c3, if_pos c4, Nat.add_sub_cancel]
      · by_cases c : 56 ≤ l ∧ l < 66
        · left; unfold chosen; split_ifs <;> omega
        · right; unfold erow; split_ifs <;> first | rfl | omega
    · refine ⟨66 + kb, by omega, by unfold chosen; split_ifs <;> omega, ?_, fun l hl => ?_⟩
      · unfold erow hrow
        rw [if_neg c0, if_neg c1, if_neg c2, if_neg c3, if_neg c4, if_pos hj, hkn]
        by_cases hk : kb = 0
        · rw [if_neg (by omega), if_neg (by omega), if_neg (by omega), if_neg (by omega), if_neg (by omega), if_pos (by omega), if_pos (by omega), if_pos hk, if_neg c0]
        · rw [if_neg (by omega), if_neg (by omega), if_neg (by omega), if_neg (by omega), if_neg (by omega), if_neg (by omega), if_pos (by omega), if_pos (by omega), if_neg hk, if_neg c0]
      · by_cases c : 66 ≤ l ∧ l < 68
        · left; unfold chosen; split_ifs <;> omega
        · right; unfold erow; split_ifs <;> first | rfl | omega
  rw [Finset.sum_eq_single (⟨r, hr⟩ : Fin 128)]
  · show hot i0 i1 i2 i3 i4 kb r * φ (erow P2 P3 P4 P5 P6 k0 k1 r j) = _
    rw [hr2, hot, if_pos hr1, one_mul]
  · intro l _ hl
    rcases hr3 l.val (fun e => hl (Fin.ext e)) with h | h
    · rw [hot, if_neg h, zero_mul]
    · rw [h, hφ, mul_zero]
  · intro h; exact absurd (Finset.mem_univ _) h

/-- In the last 32 columns the table of segments is zero. -/
theorem erow_ge (P2 P3 P4 P5 P6 : ℕ → ℕ → ℝ) (k0 k1 : ℕ → ℝ) (l j : ℕ) (hj : 144 ≤ j) :
    erow P2 P3 P4 P5 P6 k0 k1 l j = 0 := by
  unfold erow; split_ifs <;> first | rfl | omega

/-- The weighted sum over the concatenated row, from the table of segments and the continuous part. -/
theorem sum_lookup (P2 P3 P4 P5 P6 : ℕ → ℕ → ℝ) (k0 k1 kn ec : ℕ → ℝ) (i0 i1 i2 i3 i4 kb : ℕ)
    (h0 : i0 < 15) (h1 : i1 < 21) (h2 : i2 < 11) (h3 : i3 < 9) (h4 : i4 < 10) (hkb : kb < 2)
    (hkn : ∀ q, kn q = if kb = 0 then k0 q else k1 q) (φ : ℝ → ℝ) (hφ : φ 0 = 0) (w : ℕ → ℝ) :
    ∑ l : Fin 128, hot i0 i1 i2 i3 i4 kb l.val * (∑ j : Fin 176, φ (erow P2 P3 P4 P5 P6 k0 k1 l.val j.val) * w j.val)
        + ∑ q : Fin 32, φ (ec q.val) * w (144 + q.val)
      = ∑ j : Fin 176, φ (hrow P2 P3 P4 P5 P6 kn ec i0 i1 i2 i3 i4 j.val) * w j.val := by
  have hsplit : ∀ f : ℕ → ℝ, ∑ j : Fin 176, f j.val = ∑ j : Fin 144, f j.val + ∑ q : Fin 32, f (144 + q.val) := fun f =>
    Fin.sum_univ_add (a := 144) (b := 32) (fun j => f j.val)
  rw [hsplit (fun j => φ (hrow P2 P3 P4 P5 P6 kn ec i0 i1 i2 i3 i4 j) * w j)]
  refine congrArg₂ (· + ·) ?_ ?_
  · simp only [Finset.mul_sum]
    rw [Finset.sum_comm]
    simp only [← mul_assoc, ← Finset.sum_mul]
    rw [hsplit (fun j => (∑ l : Fin 128, hot i0 i1 i2 i3 i4 kb l.val * φ (erow P2 P3 P4 P5 P6 k0 k1 l.val j)) * w j)]
    rw [show (∑ q : Fin 32, (∑ l : Fin 128, hot i0 i1 i2 i3 i4 kb l.val * φ (erow P2 P3 P4 P5 P6 k0 k1 l.val (144 + q.val))) * w (144 + q.val)) = 0 from
      Finset.sum_eq_zero fun q _ => by
        rw [Finset.sum_eq_zero fun l _ => by rw [erow_ge _ _ _ _ _ _ _ _ _ (by omega), hφ, mul_zero], zero_mul], add_zero]
    exact Finset.sum_congr rfl fun j _ => by
      rw [sum_hot_lt P2 P3 P4 P5 P6 k0 k1 kn ec i0 i1 i2 i3 i4 kb h0 h1 h2 h3 h4 hkb hkn φ hφ j.val j.isLt]
  · refine Finset.sum_congr rfl fun q _ => ?_
    have hq := q.isLt
    unfold hrow
    rw [if_neg (by omega), if_neg (by omega), if_neg (by omega), if_neg (by omega), if_neg (by omega), if_neg (by omega),
      Nat.add_sub_cancel_left]

/-- The mean of the squares less the square of the mean is the mean of the squared deviations. -/
theorem var_eq (h : Fin 176 → ℝ) :
    (∑ j, h j * h j) * (1 / 176) - (∑ j, h j) * (1 / 176) * ((∑ j, h j) * (1 / 176))
      = (∑ j, (h j - (∑ i, h i) * (1 / 176)) * (h j - (∑ i, h i) * (1 / 176))) * (1 / 176) := by
  have e : ∀ j, (h j - (∑ i, h i) * (1 / 176)) * (h j - (∑ i, h i) * (1 / 176))
      = h j * h j - 2 * ((∑ i, h i) * (1 / 176)) * h j + (∑ i, h i) * (1 / 176) * ((∑ i, h i) * (1 / 176)) := fun j => by ring
  simp only [e, Finset.sum_add_distrib, Finset.sum_sub_distrib, ← Finset.mul_sum, Finset.sum_const, Finset.card_univ,
    Fintype.card_fin, nsmul_eq_mul]
  push_cast
  ring

/-- The variance is not negative. -/
theorem var_nonneg (h : Fin 176 → ℝ) (c : ℝ) : 0 ≤ (∑ j, (h j - c) * (h j - c)) * (1 / 176) :=
  mul_nonneg (Finset.sum_nonneg fun j _ => mul_self_nonneg _) (by norm_num)

/-- Projecting the normalised row: the deviation from the mean factored out. -/
theorem proj_eq (h w : Fin 176 → ℝ) (c r : ℝ) :
    (∑ j, h j * w j - c * ∑ j, w j) * r = ∑ j, (h j - c) * r * w j := by
  rw [Finset.mul_sum, ← Finset.sum_sub_distrib, Finset.sum_mul]
  exact Finset.sum_congr rfl fun j _ => by ring

end Cert.RowMath

end
-- ==== Proof.Final.lean ====
/- The kernel's row formula and the reference's row formula are the same value. -/
module

public import proofs.«01_k».proof.Proof.KernelVal
public import proofs.«01_k».proof.Proof.RefOut
public import proofs.«01_k».proof.Proof.RealMath
public import Idealize.ShloMosaic.Lib.Pointwise

@[expose] public section

set_option maxRecDepth 16384

noncomputable section

namespace Cert.RowFinal

open Idealize.ShloMosaic Idealize.ShloMosaic.TcCoe Idealize.ShloMosaic.Tactic
open Cert.RowMath
open scoped BigOperators

/-- A sum of real numbers is the same number over the extended reals. -/
theorem sum_coe {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The word of the row length is 176. -/
theorem len_word : (Ideal.ofBits .f32 0x43300000#32 : EReal) = ((176 : ℝ) : EReal) := by
  simp [Ideal.ofBits, Ideal.ieee, -EReal.coe_mul]
  norm_num

/-- The word added to the variance is a positive real number. -/
theorem eps_word : ∃ ε : ℝ, 0 < ε ∧ (Ideal.ofBits .f32 0x3727C5AC#32 : EReal) = (ε : EReal) := by
  refine ⟨10995116 / 1099511627776, by norm_num, ?_⟩
  simp [Ideal.ofBits, Ideal.ieee, -EReal.coe_mul]
  norm_num

/-- The named constant is the reciprocal of 176. -/
theorem kap_eq : Cert.KernelIdeal.Gen.kap = ((1 / 176 : ℝ) : EReal) :=
  IdealRules.named_const.ideal_named_scalar _ _ _ _ rfl

/-- Multiplying by a real number distributes over the sum of a real number and any value. -/
theorem real_add_mul (a : ℝ) (b : EReal) (w : ℝ) : ((a : EReal) + b) * (w : EReal) = ((a * w : ℝ) : EReal) + b * (w : EReal) := by
  induction b using EReal.rec with
  | coe b => rw [← EReal.coe_add, ← EReal.coe_mul, ← EReal.coe_mul, ← EReal.coe_add, add_mul]
  | top =>
    rw [EReal.coe_add_top]
    rcases lt_trichotomy w 0 with h | h | h
    · rw [EReal.top_mul_coe_of_neg h, EReal.add_bot]
    · rw [h]; simp
    · rw [EReal.top_mul_coe_of_pos h, EReal.coe_add_top]
  | bot =>
    rw [EReal.add_bot]
    rcases lt_trichotomy w 0 with h | h | h
    · rw [EReal.bot_mul_coe_of_neg h, EReal.coe_add_top]
    · rw [h]; simp
    · rw [EReal.bot_mul_coe_of_pos h, EReal.add_bot]

/-- The reference's row formula over a row of real numbers: the projected normalised row plus the projected shift. -/
theorem ln_value (h g w : Fin 176 → ℝ) (bt : Fin 176 → EReal) (bi : EReal) (ε v : ℝ) (hε : 0 < ε)
    (hv : v = (∑ j, (h j - (∑ i, h i) * (1 / 176)) * (h j - (∑ i, h i) * (1 / 176))) * (1 / 176)) :
    Cert.ReferenceIdeal.Value.lnE (fun j => ((h j : ℝ) : EReal)) (fun j => ((g j : ℝ) : EReal)) bt (fun j => ((w j : ℝ) : EReal)) bi
        ((176 : ℝ) : EReal) (ε : EReal)
      = ((∑ j, (h j - (∑ i, h i) * (1 / 176)) * (Real.sqrt (v + ε))⁻¹ * (w j * g j) : ℝ) : EReal)
        + (∑ j, bt j * ((w j : ℝ) : EReal) + bi) := by
  have hv0 : 0 ≤ v := hv ▸ var_nonneg h _
  have hs : 0 < Real.sqrt (v + ε) := Real.sqrt_pos.2 (by linarith)
  unfold Cert.ReferenceIdeal.Value.lnE
  simp only [sum_coe, Ideal.div_coe (show (176 : ℝ) ≠ 0 by norm_num), ← EReal.coe_mul, ← EReal.coe_sub]
  rw [← hv, ← EReal.coe_add]
  have hq : Ideal.sqrt ((v + ε : ℝ) : EReal) = ((Real.sqrt (v + ε) : ℝ) : EReal) := by
    show (if v + ε < 0 then ⊥ else ((Real.sqrt (v + ε) : ℝ) : EReal)) = _
    rw [if_neg (by linarith)]
  rw [hq]
  simp only [Ideal.div_coe hs.ne', ← EReal.coe_mul, real_add_mul]
  rw [Finset.sum_add_distrib, sum_coe, add_assoc]
  congr 2
  refine Finset.sum_congr rfl fun j _ => ?_
  rw [one_div]
  ring

/-- The kernel's row formula from its real sums: the projected normalised row plus the bias. -/
theorem kernel_value (h w : Fin 176 → ℝ) (bi : EReal) (ε v : ℝ) (hε : 0 < ε)
    (hv : v = (∑ j, (h j - (∑ i, h i) * (1 / 176)) * (h j - (∑ i, h i) * (1 / 176))) * (1 / 176)) :
    (((∑ j, h j * w j : ℝ) : EReal) - ((∑ j, h j : ℝ) : EReal) * ((1 / 176 : ℝ) : EReal) * ((∑ j, w j : ℝ) : EReal))
        * Ideal.rsqrt (((∑ j, h j * h j : ℝ) : EReal) * ((1 / 176 : ℝ) : EReal)
            - (((∑ j, h j : ℝ) : EReal) * ((1 / 176 : ℝ) : EReal)) * (((∑ j, h j : ℝ) : EReal) * ((1 / 176 : ℝ) : EReal)) + (ε : EReal)) + bi
      = ((∑ j, (h j - (∑ i, h i) * (1 / 176)) * (Real.sqrt (v + ε))⁻¹ * w j : ℝ) : EReal) + bi := by
  have hv0 : 0 ≤ v := hv ▸ var_nonneg h _
  simp only [← EReal.coe_mul, ← EReal.coe_sub]
  rw [var_eq h, ← hv, ← EReal.coe_add]
  have hr : Ideal.rsqrt ((v + ε : ℝ) : EReal) = (((Real.sqrt (v + ε))⁻¹ : ℝ) : EReal) := by
    show (if v + ε < 0 then ⊥ else if v + ε = 0 then ⊤ else (((Real.sqrt (v + ε))⁻¹ : ℝ) : EReal)) = _
    rw [if_neg (by linarith), if_neg (by linarith)]
  rw [hr, ← EReal.coe_mul, proj_eq]

/-- The kernel's row formula on the values its arrays hold equals the reference's on the concatenated row. -/
theorem row_eq (P2 P3 P4 P5 P6 : ℕ → ℕ → ℝ) (k0 k1 kn ec : ℕ → ℝ) (i0 i1 i2 i3 i4 kb : ℕ)
    (h0 : i0 < 15) (h1 : i1 < 21) (h2 : i2 < 11) (h3 : i3 < 9) (h4 : i4 < 10) (hkb : kb < 2)
    (hkn : ∀ q, kn q = if kb = 0 then k0 q else k1 q) (g : ℕ → ℝ) (W : ℕ → ℕ → ℝ) (bt : Fin 176 → EReal) (bb : EReal)
    (f : Fin 128 → EReal) (e : Fin 32 → EReal) (sq : Vec Ideal Cert.KernelIdeal.S128x8 .f32) (T : Vec Ideal Cert.KernelIdeal.S128x512 .f32)
    (wgc : Vec Ideal Cert.KernelIdeal.S512x32 .f32) (ws bi : Vec Ideal Cert.KernelIdeal.S1x512 .f32) (o : Fin 512)
    (hf : ∀ l, f l = ((hot i0 i1 i2 i3 i4 kb l.val : ℝ) : EReal)) (he : ∀ q, e q = ((ec q.val : ℝ) : EReal))
    (hs0 : ∀ l, sq (ix2 l 0) = ((∑ j : Fin 176, erow P2 P3 P4 P5 P6 k0 k1 l.val j.val : ℝ) : EReal))
    (hs1 : ∀ l, sq (ix2 l 1) = ((∑ j : Fin 176, erow P2 P3 P4 P5 P6 k0 k1 l.val j.val * erow P2 P3 P4 P5 P6 k0 k1 l.val j.val : ℝ) : EReal))
    (hT : ∀ l, T (ix2 l o) = ((∑ j : Fin 176, erow P2 P3 P4 P5 P6 k0 k1 l.val j.val * (W o.val j.val * g j.val) : ℝ) : EReal))
    (hwgc : ∀ q : Fin 32, wgc (ix2 o q) = ((W o.val (144 + q.val) * g (144 + q.val) : ℝ) : EReal))
    (hws : ws (ix2 0 o) = ((∑ j : Fin 176, W o.val j.val * g j.val : ℝ) : EReal))
    (hbi : bi (ix2 0 o) = ∑ j : Fin 176, bt j * ((W o.val j.val : ℝ) : EReal) + bb) :
    Cert.KernelIdeal.Gen.outE f e sq T wgc ws bi o
      = Cert.ReferenceIdeal.Value.lnE (fun j => ((hrow P2 P3 P4 P5 P6 kn ec i0 i1 i2 i3 i4 j.val : ℝ) : EReal)) (fun j => ((g j.val : ℝ) : EReal)) bt
          (fun j => ((W o.val j.val : ℝ) : EReal)) bb (Ideal.ofBits .f32 0x43300000#32) (Ideal.ofBits .f32 0x3727C5AC#32) := by
  obtain ⟨ε, hε, eε⟩ := eps_word
  rw [len_word, eε]
  rw [ln_value (fun j => hrow P2 P3 P4 P5 P6 kn ec i0 i1 i2 i3 i4 j.val) (fun j => g j.val) (fun j => W o.val j.val) bt bb ε _ hε rfl]
  unfold Cert.KernelIdeal.Gen.outE
  rw [kap_eq, eε, hws, hbi]
  simp only [hf, he, hs0, hs1, hT, hwgc, ← EReal.coe_mul, sum_coe, ← EReal.coe_add]
  have S1 := sum_lookup P2 P3 P4 P5 P6 k0 k1 kn ec i0 i1 i2 i3 i4 kb h0 h1 h2 h3 h4 hkb hkn id rfl (fun _ => 1)
  have S2 := sum_lookup P2 P3 P4 P5 P6 k0 k1 kn ec i0 i1 i2 i3 i4 kb h0 h1 h2 h3 h4 hkb hkn (fun x => x * x) (by norm_num) (fun _ => 1)
  have A := sum_lookup P2 P3 P4 P5 P6 k0 k1 kn ec i0 i1 i2 i3 i4 kb h0 h1 h2 h3 h4 hkb hkn id rfl (fun j => W o.val j * g j)
  simp only [id, mul_one] at S1 S2 A
  rw [S1, S2, A]
  simp only [EReal.coe_mul, EReal.coe_sub, EReal.coe_add]
  exact kernel_value (fun j => hrow P2 P3 P4 P5 P6 kn ec i0 i1 i2 i3 i4 j.val) (fun j => W o.val j.val * g j.val) _ ε _ hε rfl

end Cert.RowFinal

end
-- ==== Proof.PrepVal.lean ====
/- The first region's results at an index, over the reals. -/
module

public import proofs.«01_k».proof.Proof.Prep
public import proofs.«01_k».proof.Proof.RealMath
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Cert.RowMath
open scoped BigOperators

/-- A sum of real numbers is the same number over the extended reals. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- What the stores left at an index: the last store's value inside its rectangle, the earlier stores' outside it. -/
theorem canon2 {e : EltTy} {R C a b p q : ℕ} (inb) (w : (Rect.unit (s := (⟨2, ![R, C]⟩ : Shape)) ![a, b] ![p, q] inb).shape.Idx → Elt Ideal e)
    (L : List (View.Piece (Elt Ideal) (⟨2, ![R, C]⟩ : Shape) e)) (l : Fin R) (j : Fin C) :
    View.canon (⟨Rect.unit (s := (⟨2, ![R, C]⟩ : Shape)) ![a, b] ![p, q] inb, w⟩ :: L) (ix2 l j)
      = if h : (a ≤ l.val ∧ l.val < a + p) ∧ b ≤ j.val ∧ j.val < b + q then
          w (ix2 (⟨l.val - a, by omega⟩ : Fin p) (⟨j.val - b, by omega⟩ : Fin q))
        else View.canon L (ix2 l j) := by
  by_cases h : (a ≤ l.val ∧ l.val < a + p) ∧ b ≤ j.val ∧ j.val < b + q
  · rw [dif_pos h]
    have e : (ix2 l j : (⟨2, ![R, C]⟩ : Shape).Idx) = (Rect.unit (s := (⟨2, ![R, C]⟩ : Shape)) ![a, b] ![p, q] inb).emb
        (ix2 (⟨l.val - a, by omega⟩ : Fin p) (⟨j.val - b, by omega⟩ : Fin q)) := by
      funext d
      refine Fin.ext ?_
      fin_cases d
      · show l.val = a + 1 * (l.val - a); omega
      · show j.val = b + 1 * (j.val - b); omega
    rw [e]
    exact View.canon_cons_emb _ _ _ _
  · rw [dif_neg h]
    refine View.canon_cons_of_not_mem _ _ fun hm => h ?_
    rw [Rect.mem_set_unit] at hm
    exact ⟨hm 0, hm 1⟩

section
variable (x0 : Vec Ideal S15x32 .f32) (x1 : Vec Ideal S21x32 .f32) (x2 : Vec Ideal S11x16 .f32) (x3 : Vec Ideal S9x16 .f32)
  (x4 : Vec Ideal S10x16 .f32) (x5 : Vec Ideal S2x32 .f32) (x6 : Vec Ideal S32x32 .f32) (x7 : Vec Ideal S32 .f32)
  (P2 P3 P4 P5 P6 KP : ℕ → ℕ → ℝ) (KE kb : ℕ → ℝ)

/-- The reading embedding's row for a reading that is present. -/
def kanaRow (KP : ℕ → ℕ → ℝ) (KE kb : ℕ → ℝ) (q : ℕ) : ℝ := (∑ p : Fin 32, KE p.val * KP q p.val) + kb q

/-- The projected reading embedding at an index, over the reals. -/
theorem pay16_apply (h5 : ∀ p : Fin 32, x5 (ix2 1 p) = ((KE p.val : ℝ) : EReal))
    (h6 : ∀ q p : Fin 32, x6 (ix2 q p) = ((KP q.val p.val : ℝ) : EReal)) (h7 : ∀ q : Fin 32, x7 (ix1 q) = ((kb q.val : ℝ) : EReal))
    (r : Fin 1) (q : Fin 32) :
    k0_pay16 (F := Ideal) (k0_pay7 (View.ld (Val := Elt Ideal) (e' := .f32) x5 (Rect.unit (s := S2x32) ![1, 0] ![1, 32] inb_S2x32_S1x32_1_0)) x6 x7) (ix2 r q)
      = ((kanaRow KP KE kb q.val : ℝ) : EReal) := by
  have hld : ∀ (r : Fin 1) (p : Fin 32), (View.ld (Val := Elt Ideal) (e' := .f32) x5 (Rect.unit (s := S2x32) ![1, 0] ![1, 32] inb_S2x32_S1x32_1_0) :
      Vec Ideal S1x32 .f32) (ix2 r p) = ((KE p.val : ℝ) : EReal) := fun r p => by
    rw [← h5]
    refine congrArg x5 (funext fun d => Fin.ext ?_)
    fin_cases d
    · show 1 + 1 * r.val = 1; omega
    · show 0 + 1 * p.val = p.val; omega
  generalize (View.ld (Val := Elt Ideal) (e' := .f32) x5 (Rect.unit (s := S2x32) ![1, 0] ![1, 32] inb_S2x32_S1x32_1_0) : Vec Ideal S1x32 .f32) = y at hld ⊢
  pointwise [k0_pay16, k0_pay7]
  simp only [hld, h6, h7, ← EReal.coe_mul, coe_sum, ← EReal.coe_add]
  rfl

set_option maxHeartbeats 2000000 in
/-- The table of segments at an index. -/
theorem prepE_apply (h0 : ∀ l j, x0 (ix2 l j) = ((P2 l.val j.val : ℝ) : EReal)) (h1 : ∀ l j, x1 (ix2 l j) = ((P3 l.val j.val : ℝ) : EReal))
    (h2 : ∀ l j, x2 (ix2 l j) = ((P4 l.val j.val : ℝ) : EReal)) (h3 : ∀ l j, x3 (ix2 l j) = ((P5 l.val j.val : ℝ) : EReal))
    (h4 : ∀ l j, x4 (ix2 l j) = ((P6 l.val j.val : ℝ) : EReal))
    (h5 : ∀ p : Fin 32, x5 (ix2 1 p) = ((KE p.val : ℝ) : EReal))
    (h6 : ∀ q p : Fin 32, x6 (ix2 q p) = ((KP q.val p.val : ℝ) : EReal)) (h7 : ∀ q : Fin 32, x7 (ix1 q) = ((kb q.val : ℝ) : EReal))
    (l : Fin 68) (j : Fin 176) :
    prepE x0 x1 x2 x3 x4 x5 x6 x7 (ix2 l j) = ((erow P2 P3 P4 P5 P6 kb (kanaRow KP KE kb) l.val j.val : ℝ) : EReal) := by
  have hl := l.isLt
  have hj := j.isLt
  unfold prepE
  rw [canon2]
  by_cases c7 : (67 ≤ l.val ∧ l.val < 67 + 1) ∧ 112 ≤ j.val ∧ j.val < 112 + 32
  · rw [dif_pos c7]
    refine (pay16_apply x5 x6 x7 KP KE kb h5 h6 h7 _ _).trans ?_
    unfold erow
    rw [if_neg (by omega), if_neg (by omega), if_neg (by omega), if_neg (by omega), if_neg (by omega), if_neg (by omega),
      if_pos (by omega), if_pos (by omega)]
  rw [dif_neg c7, canon2]
  by_cases c6 : (66 ≤ l.val ∧ l.val < 66 + 1) ∧ 112 ≤ j.val ∧ j.val < 112 + 32
  · rw [dif_pos c6]
    refine Eq.trans (b := x7 (ix1 (⟨j.val - 112, by omega⟩ : Fin 32))) (by pointwise [k0_pay15, k0_pay8]) ?_
    rw [h7]
    unfold erow
    rw [if_neg (by omega), if_neg (by omega), if_neg (by omega), if_neg (by omega), if_neg (by omega), if_pos (by omega),
      if_pos (by omega)]
  rw [dif_neg c6, canon2]
  by_cases c5 : (56 ≤ l.val ∧ l.val < 56 + 10) ∧ 96 ≤ j.val ∧ j.val < 96 + 16
  · rw [dif_pos c5]
    refine Eq.trans (b := x4 (ix2 (⟨l.val - 56, by omega⟩ : Fin 10) (⟨j.val - 96, by omega⟩ : Fin 16))) (by pointwise [k0_pay14]) ?_
    rw [h4]
    unfold erow
    rw [if_neg (by omega), if_neg (by omega), if_neg (by omega), if_neg (by omega), if_pos (by omega), if_pos (by omega)]
  rw [dif_neg c5, canon2]
  by_cases c4 : (47 ≤ l.val ∧ l.val < 47 + 9) ∧ 80 ≤ j.val ∧ j.val < 80 + 16
  · rw [dif_pos c4]
    refine Eq.trans (b := x3 (ix2 (⟨l.val - 47, by omega⟩ : Fin 9) (⟨j.val - 80, by omega⟩ : Fin 16))) (by pointwise [k0_pay13]) ?_
    rw [h3]
    unfold erow
    rw [if_neg (by omega), if_neg (by omega), if_neg (by omega), if_pos (by omega), if_pos (by omega)]
  rw [dif_neg c4, canon2]
  by_cases c3 : (36 ≤ l.val ∧ l.val < 36 + 11) ∧ 64 ≤ j.val ∧ j.val < 64 + 16
  · rw [dif_pos c3]
    refine Eq.trans (b := x2 (ix2 (⟨l.val - 36, by omega⟩ : Fin 11) (⟨j.val - 64, by omega⟩ : Fin 16))) (by pointwise [k0_pay12]) ?_
    rw [h2]
    unfold erow
    rw [if_neg (by omega), if_neg (by omega), if_pos (by omega), if_pos (by omega)]
  rw [dif_neg c3, canon2]
  by_cases c2 : (15 ≤ l.val ∧ l.val < 15 + 21) ∧ 32 ≤ j.val ∧ j.val < 32 + 32
  · rw [dif_pos c2]
    refine Eq.trans (b := x1 (ix2 (⟨l.val - 15, by omega⟩ : Fin 21) (⟨j.val - 32, by omega⟩ : Fin 32))) (by pointwise [k0_pay11]) ?_
    rw [h1]
    unfold erow
    rw [if_neg (by omega), if_pos (by omega), if_pos (by omega)]
  rw [dif_neg c2, canon2]
  by_cases c1 : (0 ≤ l.val ∧ l.val < 0 + 15) ∧ 0 ≤ j.val ∧ j.val < 0 + 32
  · rw [dif_pos c1]
    refine Eq.trans (b := x0 (ix2 (⟨l.val - 0, by omega⟩ : Fin 15) (⟨j.val - 0, by omega⟩ : Fin 32))) (by pointwise [k0_pay10]) ?_
    rw [h0]
    unfold erow
    rw [if_pos (by omega), if_pos (by omega)]
    rfl
  rw [dif_neg c1, canon2, dif_pos (by omega)]
  refine Eq.trans (b := (((0 : ℝ)) : EReal)) (by pointwise [k0_pay9]; rfl) ?_
  refine congrArg _ ?_
  unfold erow
  by_cases d1 : l.val < 15
  · rw [if_pos d1, if_neg (by omega)]
  by_cases d2 : l.val < 36
  · rw [if_neg d1, if_pos d2, if_neg (by omega)]
  by_cases d3 : l.val < 47
  · rw [if_neg d1, if_neg d2, if_pos d3, if_neg (by omega)]
  by_cases d4 : l.val < 56
  · rw [if_neg d1, if_neg d2, if_neg d3, if_pos d4, if_neg (by omega)]
  by_cases d5 : l.val < 66
  · rw [if_neg d1, if_neg d2, if_neg d3, if_neg d4, if_pos d5, if_neg (by omega)]
  by_cases d6 : l.val < 67
  · rw [if_neg d1, if_neg d2, if_neg d3, if_neg d4, if_neg d5, if_pos d6, if_neg (by omega)]
  · rw [if_neg d1, if_neg d2, if_neg d3, if_neg d4, if_neg d5, if_neg d6, if_pos hl, if_neg (by omega)]

end

/-- Past the 68 rows the table of segments is zero. -/
theorem erow_past (P2 P3 P4 P5 P6 : ℕ → ℕ → ℝ) (k0 k1 : ℕ → ℝ) (l j : ℕ) (hl : 68 ≤ l) :
    erow P2 P3 P4 P5 P6 k0 k1 l j = 0 := by
  unfold erow
  rw [if_neg (by omega), if_neg (by omega), if_neg (by omega), if_neg (by omega), if_neg (by omega), if_neg (by omega),
    if_neg (by omega)]

section
variable (E : Vec Ideal S68x176 .f32) (e : ℕ → ℕ → ℝ) (hE : ∀ l j, E (ix2 l j) = ((e l.val j.val : ℝ) : EReal))
  (he : ∀ l j, 68 ≤ l → e l j = 0) (x10 : Vec Ideal S176 .f32) (x12 : Vec Ideal S512x176 .f32) (g : ℕ → ℝ) (W : ℕ → ℕ → ℝ)
  (h10 : ∀ j, x10 (ix1 j) = ((g j.val : ℝ) : EReal)) (h12 : ∀ o j, x12 (ix2 o j) = ((W o.val j.val : ℝ) : EReal))
include hE he h10 h12

/-- The table result at an index: the projected table of segments. -/
theorem table_apply (l : Fin 128) (o : Fin 512) :
    View.canon (Val := Elt Ideal) (s := S128x512) (e := .f32)
      [⟨Rect.unit ![0, 0] ![68, 512] inb_S128x512_S68x512_0_0, k0_pay18 (k0_pay6 x12 x10) E⟩,
        ⟨Rect.unit ![0, 0] ![128, 512] inb_S128x512_S128x512_0_0, k0_pay17 (F := Ideal)⟩] (ix2 l o)
      = ((∑ j : Fin 176, e l.val j.val * (W o.val j.val * g j.val) : ℝ) : EReal) := by
  have ho := o.isLt
  have hl := l.isLt
  rw [canon2]
  by_cases c : (0 ≤ l.val ∧ l.val < 0 + 68) ∧ 0 ≤ o.val ∧ o.val < 0 + 512
  · rw [dif_pos c]
    refine Eq.trans (b := ∑ x : Fin 176, E (ix2 (⟨l.val - 0, by omega⟩ : Fin 68) x) * (x12 (ix2 (⟨o.val - 0, by omega⟩ : Fin 512) x) * x10 (ix1 x)))
      (by pointwise [k0_pay18, k0_pay6]) ?_
    simp only [hE, h10, h12, ← EReal.coe_mul, coe_sum]
    rfl
  · rw [dif_neg c, canon2, dif_pos (by omega)]
    refine Eq.trans (b := (((0 : ℝ)) : EReal)) (by pointwise [k0_pay17]; rfl) (congrArg _ ?_)
    exact (Finset.sum_eq_zero fun j _ => by rw [he _ _ (by omega), zero_mul]).symm

omit h10 h12 in
/-- The row sums result at its two columns: the sum and the sum of squares of a row of the table of segments. -/
theorem sums_apply (l : Fin 128) :
    View.canon (Val := Elt Ideal) (s := S128x8) (e := .f32)
      [⟨Rect.unit ![0, 1] ![68, 1] inb_S128x8_S68x1_0_1, k0_pay20 E⟩,
        ⟨Rect.unit ![0, 0] ![68, 1] inb_S128x8_S68x1_0_0, k0_pay19 E⟩,
        ⟨Rect.unit ![0, 0] ![128, 8] inb_S128x8_S128x8_0_0, k0_pay21 (F := Ideal)⟩] (ix2 l 0)
      = ((∑ j : Fin 176, e l.val j.val : ℝ) : EReal)
    ∧ View.canon (Val := Elt Ideal) (s := S128x8) (e := .f32)
      [⟨Rect.unit ![0, 1] ![68, 1] inb_S128x8_S68x1_0_1, k0_pay20 E⟩,
        ⟨Rect.unit ![0, 0] ![68, 1] inb_S128x8_S68x1_0_0, k0_pay19 E⟩,
        ⟨Rect.unit ![0, 0] ![128, 8] inb_S128x8_S128x8_0_0, k0_pay21 (F := Ideal)⟩] (ix2 l 1)
      = ((∑ j : Fin 176, e l.val j.val * e l.val j.val : ℝ) : EReal) := by
  have hl := l.isLt
  have v0 : (0 : Fin 8).val = 0 := rfl
  have v1 : (1 : Fin 8).val = 1 := rfl
  constructor
  · rw [canon2, dif_neg (by rw [v0]; omega), canon2]
    by_cases c : l.val < 68
    · rw [dif_pos (by rw [v0]; omega)]
      refine Eq.trans (b := ∑ x : Fin 176, E (ix2 (⟨l.val - 0, by omega⟩ : Fin 68) x)) (by pointwise [k0_pay19]) ?_
      simp only [hE, coe_sum]
      rfl
    · rw [dif_neg (by omega), canon2, dif_pos (by rw [v0]; omega)]
      refine Eq.trans (b := (((0 : ℝ)) : EReal)) (by pointwise [k0_pay21]; rfl) (congrArg _ ?_)
      exact (Finset.sum_eq_zero fun j _ => by rw [he _ _ (by omega)]).symm
  · rw [canon2]
    by_cases c : l.val < 68
    · rw [dif_pos (by rw [v1]; omega)]
      refine Eq.trans (b := ∑ x : Fin 176, E (ix2 (⟨l.val - 0, by omega⟩ : Fin 68) x) * E (ix2 (⟨l.val - 0, by omega⟩ : Fin 68) x)) (by pointwise [k0_pay20]) ?_
      simp only [hE, ← EReal.coe_mul, coe_sum]
      rfl
    · rw [dif_neg (by omega), canon2, dif_neg (by rw [v1]; omega), canon2, dif_pos (by rw [v1]; omega)]
      refine Eq.trans (b := (((0 : ℝ)) : EReal)) (by pointwise [k0_pay21]; rfl) (congrArg _ ?_)
      exact (Finset.sum_eq_zero fun j _ => by rw [he _ _ (by omega), zero_mul]).symm

omit hE he in
/-- The continuous weights result at an index. -/
theorem contW_apply (o : Fin 512) (q : Fin 32) :
    k0_pay1 (F := Ideal) (k0_pay6 x12 x10) (ix2 o q) = ((W o.val (144 + q.val) * g (144 + q.val) : ℝ) : EReal) := by
  pointwise [k0_pay1, k0_pay6]
  rw [h10, h12, ← EReal.coe_mul]

omit hE he in
/-- The weight sums result at an index. -/
theorem wsum_apply (r : Fin 1) (o : Fin 512) :
    k0_pay4 (F := Ideal) (k0_pay6 x12 x10) (ix2 r o) = ((∑ j : Fin 176, W o.val j.val * g j.val : ℝ) : EReal) := by
  pointwise [k0_pay4, k0_pay6]
  simp only [h10, h12, ← EReal.coe_mul, coe_sum]

omit hE he h10 h12 in
/-- The bias result at an index. -/
theorem bias_apply (x11 : Vec Ideal S176 .f32) (x13 : Vec Ideal S512 .f32) (r : Fin 1) (o : Fin 512) :
    k0_pay5 (F := Ideal) x11 x12 x13 (ix2 r o) = (∑ j : Fin 176, x11 (ix1 j) * x12 (ix2 o j) + x13 (ix1 o) : EReal) := by
  pointwise [k0_pay5]

omit hE he h10 h12 in
/-- The padded continuous projection at an index: five columns of zeros, then the projection. -/
theorem contP_apply (x8 : Vec Ideal S32x6 .f32) (Q : ℕ → ℕ → ℝ) (h8 : ∀ q k, x8 (ix2 q k) = ((Q q.val k.val : ℝ) : EReal))
    (q : Fin 32) (k : Fin 11) :
    View.canon (Val := Elt Ideal) (s := S32x11) (e := .f32)
      [⟨Rect.unit ![0, 5] ![32, 6] inb_S32x11_S32x6_0_5, x8⟩,
        ⟨Rect.unit ![0, 0] ![32, 11] inb_S32x11_S32x11_0_0, k0_pay2 (F := Ideal)⟩] (ix2 q k)
      = ((if k.val < 5 then 0 else Q q.val (k.val - 5) : ℝ) : EReal) := by
  have hk := k.isLt
  have hq := q.isLt
  rw [canon2]
  by_cases c : k.val < 5
  · rw [dif_neg (by omega), canon2, dif_pos (by omega), if_pos c]
    exact Eq.trans (b := (((0 : ℝ)) : EReal)) (by pointwise [k0_pay2]; rfl) rfl
  · rw [dif_pos (by omega), if_neg c]
    exact h8 _ _

omit hE he h10 h12 in
/-- The continuous bias at an index. -/
theorem contB_apply (x9 : Vec Ideal S32 .f32) (r : Fin 1) (q : Fin 32) : k0_pay3 (F := Ideal) x9 (ix2 r q) = x9 (ix1 q) := by
  pointwise [k0_pay3]

end

end Cert.KernelIdeal.Gen

end
-- ==== Proof.Consts.lean ====
/- The kernel's two constant arrays: the clipping bounds and offsets of the five id columns, and the segments' indicators. -/
module

public import proofs.«01_k».proof.Proof.Prep
public import Idealize.ShloMosaic.Lib.Pointwise

@[expose] public section

set_option maxRecDepth 16384

noncomputable section

namespace Cert.KernelIdeal.Gen

open Idealize.ShloMosaic Idealize.ShloMosaic.TcCoe Idealize.ShloMosaic.Tactic

/-- The segment of the six that a column of the indicator lies in (six past the last). -/
def segOf (l : ℕ) : ℕ :=
  if l < 15 then 0 else if l < 36 then 1 else if l < 47 then 2 else if l < 56 then 3 else if l < 66 then 4 else if l < 68 then 5 else 6

/-- The words of the indicators table: one in the segment of the row, zero elsewhere. -/
theorem lit1_val : ∀ (i : Fin 6) (l : Fin 128), lit1 (S6x128.rowMajor (ix2 i l))
    = if segOf l.val = i.val then 0x3F800000#32 else 0#32 := by decide +kernel

/-- The words of the bounds table: the largest ids in the first row, the segments' first positions in the second. -/
theorem lit0_val : (∀ x : Fin 5, lit0 (S2x8.rowMajor (ix2 (0 : Fin 2) (⟨x.val, by omega⟩ : Fin 8))) = ![14#32, 20#32, 10#32, 8#32, 9#32] x)
    ∧ ∀ x : Fin 5, lit0 (S2x8.rowMajor (ix2 (1 : Fin 2) (⟨x.val, by omega⟩ : Fin 8))) = ![0#32, 15#32, 36#32, 47#32, 56#32] x := by
  decide +kernel

variable (m : (ℓ : Loc nD τ sig) → Buf (Elt Ideal) ℓ) (ρ : Dev nD → PrngReg)

/-- The bounds array as the second region reads it. -/
theorem V2_c (c : Dev nD) : (W2 m ρ c (Proc.devRef .tc main_c) : Vec Ideal S2x8 .i32) = fun i => lit0 (S2x8.rowMajor i) := by
  rw [W2_of m ρ c main_c (by decide)]
  rfl

/-- The indicators array as the second region reads it. -/
theorem V2_cst (c : Dev nD) : (W2 m ρ c (Proc.devRef .tc main_cst) : Vec Ideal S6x128 .f32) = fun i => FloatOps.ofBits (F := Ideal) .f32 (lit1 (S6x128.rowMajor i)) := by
  rw [W2_of m ρ c main_cst (by decide)]
  rfl

/-- The indicators array at an index: one in the row's own segment, zero elsewhere. -/
theorem sel_apply (c : Dev nD) (i : Fin 6) (l : Fin 128) :
    (W2 m ρ c (Proc.devRef .tc main_cst) : Vec Ideal S6x128 .f32) (ix2 i l) = (((if segOf l.val = i.val then 1 else 0) : ℝ) : EReal) := by
  rw [V2_cst]
  show FloatOps.ofBits (F := Ideal) .f32 (lit1 (S6x128.rowMajor (ix2 i l))) = _
  rw [lit1_val]
  by_cases h : segOf l.val = i.val
  · rw [if_pos h, if_pos h]
    pointwise
    rfl
  · rw [if_neg h, if_neg h]
    pointwise
    rfl

/-- The bounds array as the second region reads it, at an index. -/
theorem bounds_apply (c : Dev nD) :
    (∀ x : Fin 5, (W2 m ρ c (Proc.devRef .tc main_c) : Vec Ideal S2x8 .i32) (ix2 0 ⟨x.val, by omega⟩) = ![14#32, 20#32, 10#32, 8#32, 9#32] x)
    ∧ ∀ x : Fin 5, (W2 m ρ c (Proc.devRef .tc main_c) : Vec Ideal S2x8 .i32) (ix2 1 ⟨x.val, by omega⟩) = ![0#32, 15#32, 36#32, 47#32, 56#32] x := by
  rw [V2_c]
  exact lit0_val

end Cert.KernelIdeal.Gen

end
-- ==== Proof.Words.lean ====
/- Small facts about words: clipping, conjunctions of bits, the greatest of several words. -/
module

public import Idealize.ShloMosaic.Lib.Pointwise
public import Idealize.ShloMosaic.Lib.SortNet.Extract

@[expose] public section

noncomputable section

namespace Cert.Words

open Idealize.ShloMosaic

/-- A conjunction of bits over a finite set is one where every bit is one. -/
theorem fold_andi_one {ι : Type} (S : Finset ι) (f : ι → BitVec 1) (h : ∀ i, f i = 1#1) :
    Finset.fold (IntOp.andi (w := 1)) (1#1) f S = 1#1 := by
  classical
  induction S using Finset.induction_on with
  | empty => rfl
  | insert a S ha ih => rw [Finset.fold_insert ha, ih, h]; rfl

/-- A word clipped to `[0, hi]`, as a natural number. -/
def clipN (hi v : BitVec 32) : ℕ := (IntOp.minsi hi (IntOp.maxsi 0#32 v)).toInt.toNat

/-- The clipped word's signed value is that number. -/
theorem clip_toInt (hi v : BitVec 32) (hh : 0 ≤ hi.toInt) :
    (IntOp.minsi hi (IntOp.maxsi 0#32 v)).toInt = (clipN hi v : ℤ) := by
  unfold clipN
  have h := SortNet.toInt_minsi hi (IntOp.maxsi 0#32 v)
  have h' := SortNet.toInt_maxsi (0#32) v
  have h0 : (0#32 : BitVec 32).toInt = 0 := by decide
  omega

/-- The clipped number is at most the bound. -/
theorem clipN_le (hi v : BitVec 32) (hh : 0 ≤ hi.toInt) : (clipN hi v : ℤ) ≤ hi.toInt := by
  rw [← clip_toInt hi v hh]
  have h := SortNet.toInt_minsi hi (IntOp.maxsi 0#32 v)
  omega

/-- A clipped word, wrapped as a negative one would be, is itself. -/
theorem wrap_clip (hi v n : BitVec 32) (hh : 0 ≤ hi.toInt) :
    Scalar.select (IntOp.cmpi .slt (IntOp.minsi hi (IntOp.maxsi 0#32 v)) 0#32)
      (IntOp.addi (IntOp.minsi hi (IntOp.maxsi 0#32 v)) n) (IntOp.minsi hi (IntOp.maxsi 0#32 v))
      = IntOp.minsi hi (IntOp.maxsi 0#32 v) := by
  have h := clip_toInt hi v hh
  have h0 : (0#32 : BitVec 32).toInt = 0 := by decide
  have : IntOp.cmpi .slt (IntOp.minsi hi (IntOp.maxsi 0#32 v)) 0#32 = 0#1 := by
    unfold IntOp.cmpi
    simp only [BitVec.slt, h, h0]
    rw [decide_eq_false (by omega)]; rfl
  rw [this]; exact if_neg (by decide)

/-- A clipped word is in range. -/
theorem inRange_clip (hi v : BitVec 32) (hh : 0 ≤ hi.toInt) :
    IntOp.andi (IntOp.cmpi .sge (IntOp.minsi hi (IntOp.maxsi 0#32 v)) 0#32)
      (IntOp.cmpi .sle (IntOp.minsi hi (IntOp.maxsi 0#32 v)) hi) = 1#1 := by
  have h := clip_toInt hi v hh
  have hl := clipN_le hi v hh
  have h0 : (0#32 : BitVec 32).toInt = 0 := by decide
  have h1 : IntOp.cmpi .sge (IntOp.minsi hi (IntOp.maxsi 0#32 v)) 0#32 = 1#1 := by
    unfold IntOp.cmpi
    simp only [BitVec.sle, h, h0]
    rw [decide_eq_true (by omega)]; rfl
  have h2 : IntOp.cmpi .sle (IntOp.minsi hi (IntOp.maxsi 0#32 v)) hi = 1#1 := by
    unfold IntOp.cmpi
    simp only [BitVec.sle, h]
    rw [decide_eq_true (by omega)]; rfl
  rw [h1, h2]; rfl

/-- The greatest of several words is at least one exactly where one of them is. -/
theorem fold_maxsi_ge_one {n : ℕ} (g : Fin n → BitVec 32) :
    IntOp.cmpi .sge (Finset.fold IntOp.maxsi (2147483648#32) g Finset.univ) 1#32
      = BitVec.ofBool (decide (∃ k, 1 ≤ (g k).toInt)) := by
  have h := SortNet.fold_maxsi_spec g Finset.univ (2147483648#32)
  have h1 : (1#32 : BitVec 32).toInt = 1 := by decide
  have hm : (2147483648#32 : BitVec 32).toInt = -2147483648 := by decide
  unfold IntOp.cmpi
  refine congrArg BitVec.ofBool ?_
  simp only [BitVec.sle, h1]
  refine decide_eq_decide.mpr ⟨fun hle => ?_, fun ⟨k, hk⟩ => le_trans hk (h.2.1 k (Finset.mem_univ _))⟩
  rcases h.2.2 with he | ⟨k, _, he⟩
  · rw [he, hm] at hle; omega
  · exact ⟨k, by rw [← he]; exact hle⟩

end Cert.Words

end
-- ==== Proof.Feat.lean ====
/- A row's indicator: one at the six chosen table rows, zero elsewhere. -/
module

public import proofs.«01_k».proof.Proof.KernelVal
public import proofs.«01_k».proof.Proof.Consts
public import proofs.«01_k».proof.Proof.PrepVal
public import proofs.«01_k».proof.Proof.Words

@[expose] public section

set_option maxRecDepth 16384

noncomputable section

namespace Cert.KernelIdeal.Gen

open Idealize.ShloMosaic Idealize.ShloMosaic.TcCoe Idealize.ShloMosaic.Tactic
open Cert.RowMath Cert.Words
open scoped BigOperators

/-- A clipped id plus its segment's offset does not overflow. -/
theorem toInt_clip_add (hi v off : BitVec 32) (h0 : 0 ≤ hi.toInt) (h1 : hi.toInt ≤ 100) (o0 : 0 ≤ off.toInt) (o1 : off.toInt ≤ 100) :
    (IntOp.addi (IntOp.minsi hi (IntOp.maxsi 0#32 v)) off).toInt = (clipN hi v : ℤ) + off.toInt := by
  have h := clip_toInt hi v h0
  have hl := clipN_le hi v h0
  unfold IntOp.addi
  rw [BitVec.toInt_add, h, Int.bmod_def]
  norm_num
  omega

/-- The integer-to-float conversion over the reals. -/
theorem sitofp_eq (x : BitVec 32) : FloatOps.sitofp (F := Ideal) .f32 x = (((x.toInt : ℤ) : ℝ) : EReal) := rfl

/-- Whether a reading is present, as a number. -/
def present (rs : Fin 8 → BitVec 32) : ℕ := by
  classical exact if ∃ k, 1 ≤ (rs k).toInt then 1 else 0

/-- Whether a reading is present is zero or one. -/
theorem present_lt (rs : Fin 8 → BitVec 32) : present rs < 2 := by
  unfold present; split_ifs <;> omega

/-- The position of the reading embedding's row in the table of segments. -/
theorem toInt_present (rs : Fin 8 → BitVec 32) :
    (IntOp.addi 66#32 (BitVec.setWidth 32 (IntOp.cmpi .sge (Finset.fold IntOp.maxsi 2147483648#32 rs Finset.univ) 1#32))).toInt
      = 66 + (present rs : ℤ) := by
  rw [fold_maxsi_ge_one]
  unfold present
  by_cases h : ∃ k, 1 ≤ (rs k).toInt
  · rw [decide_eq_true h, if_pos h]; decide
  · rw [decide_eq_false h, if_neg h]; decide

/-- The five bounds and the five offsets are small. -/
theorem bounds_small : ∀ x : Fin 5, (0 ≤ (![14#32, 20#32, 10#32, 8#32, 9#32] x).toInt ∧ (![14#32, 20#32, 10#32, 8#32, 9#32] x).toInt ≤ 100)
    ∧ 0 ≤ (![0#32, 15#32, 36#32, 47#32, 56#32] x).toInt ∧ (![0#32, 15#32, 36#32, 47#32, 56#32] x).toInt ≤ 100 := by
  decide

/-- The spread's sum over the segments keeps the term of the column's own segment. -/
theorem chosen_sum (l : ℕ) (a0 a1 a2 a3 a4 a5 : ℝ) (i0 i1 i2 i3 i4 kb : ℕ) (h0 : a0 = i0) (h1 : a1 = (i1 + 15 : ℕ)) (h2 : a2 = (i2 + 36 : ℕ))
    (h3 : a3 = (i3 + 47 : ℕ)) (h4 : a4 = (i4 + 56 : ℕ)) (h5 : a5 = (66 + kb : ℕ)) :
    a0 * (if segOf l = 0 then 1 else 0) + a1 * (if segOf l = 1 then 1 else 0) + a2 * (if segOf l = 2 then 1 else 0)
        + a3 * (if segOf l = 3 then 1 else 0) + a4 * (if segOf l = 4 then 1 else 0) + a5 * (if segOf l = 5 then 1 else 0)
      = ((chosen i0 i1 i2 i3 i4 kb l : ℕ) : ℝ) := by
  rw [h0, h1, h2, h3, h4, h5]
  by_cases c0 : l < 15
  · have e : segOf l = 0 := by unfold segOf; rw [if_pos c0]
    have e' : chosen i0 i1 i2 i3 i4 kb l = i0 := by unfold chosen; rw [if_pos c0]
    rw [e, e']; simp
  by_cases c1 : l < 36
  · have e : segOf l = 1 := by unfold segOf; rw [if_neg c0, if_pos c1]
    have e' : chosen i0 i1 i2 i3 i4 kb l = i1 + 15 := by unfold chosen; rw [if_neg c0, if_pos c1]
    rw [e, e']; simp
  by_cases c2 : l < 47
  · have e : segOf l = 2 := by unfold segOf; rw [if_neg c0, if_neg c1, if_pos c2]
    have e' : chosen i0 i1 i2 i3 i4 kb l = i2 + 36 := by unfold chosen; rw [if_neg c0, if_neg c1, if_pos c2]
    rw [e, e']; simp
  by_cases c3 : l < 56
  · have e : segOf l = 3 := by unfold segOf; rw [if_neg c0, if_neg c1, if_neg c2, if_pos c3]
    have e' : chosen i0 i1 i2 i3 i4 kb l = i3 + 47 := by unfold chosen; rw [if_neg c0, if_neg c1, if_neg c2, if_pos c3]
    rw [e, e']; simp
  by_cases c4 : l < 66
  · have e : segOf l = 4 := by unfold segOf; rw [if_neg c0, if_neg c1, if_neg c2, if_neg c3, if_pos c4]
    have e' : chosen i0 i1 i2 i3 i4 kb l = i4 + 56 := by unfold chosen; rw [if_neg c0, if_neg c1, if_neg c2, if_neg c3, if_pos c4]
    rw [e, e']; simp
  by_cases c5 : l < 68
  · have e : segOf l = 5 := by unfold segOf; rw [if_neg c0, if_neg c1, if_neg c2, if_neg c3, if_neg c4, if_pos c5]
    have e' : chosen i0 i1 i2 i3 i4 kb l = 66 + kb := by unfold chosen; rw [if_neg c0, if_neg c1, if_neg c2, if_neg c3, if_neg c4, if_pos c5]
    rw [e, e']; simp
  · have e : segOf l = 6 := by unfold segOf; rw [if_neg c0, if_neg c1, if_neg c2, if_neg c3, if_neg c4, if_neg c5]
    have e' : chosen i0 i1 i2 i3 i4 kb l = 0 := by unfold chosen; rw [if_neg c0, if_neg c1, if_neg c2, if_neg c3, if_neg c4, if_neg c5]
    rw [e, e']; simp

section
variable (xs : Fin 11 → EReal) (rs : Fin 8 → BitVec 32) (sel : Vec Ideal S6x128 .f32)
  (hsel : ∀ (i : Fin 6) (l : Fin 128), sel (ix2 i l) = (((if segOf l.val = i.val then 1 else 0) : ℝ) : EReal))

/-- The clipped id in column `k`. -/
def idN (hi : BitVec 32) (xs : Fin 11 → EReal) (k : Fin 11) : ℕ := clipN hi (FloatOps.fptosi (F := Ideal) (φ := .f32) 32 (xs k))

include hsel in
/-- The spread value at a column is the chosen row of its segment. -/
theorem spread_eq (l : Fin 128) :
    spread ![14#32, 20#32, 10#32, 8#32, 9#32] ![0#32, 15#32, 36#32, 47#32, 56#32] sel xs rs l
      = (((chosen (idN 14#32 xs 0) (idN 20#32 xs 1) (idN 10#32 xs 2) (idN 8#32 xs 3) (idN 9#32 xs 4) (present rs) l.val : ℕ) : ℝ) : EReal) := by
  unfold spread
  have e : ∀ x : Fin 5, FloatOps.sitofp (F := Ideal) .f32 (IntOp.addi (IntOp.minsi (![14#32, 20#32, 10#32, 8#32, 9#32] x)
      (IntOp.maxsi 0#32 (FloatOps.fptosi (F := Ideal) (φ := .f32) 32 (xs ⟨x.val, by omega⟩)))) (![0#32, 15#32, 36#32, 47#32, 56#32] x)) * sel (ix2 ⟨x.val, by omega⟩ l)
      = ((((idN (![14#32, 20#32, 10#32, 8#32, 9#32] x) xs ⟨x.val, by omega⟩ : ℤ) + (![0#32, 15#32, 36#32, 47#32, 56#32] x).toInt : ℤ) : ℝ)
          * (if segOf l.val = x.val then 1 else 0) : ℝ) := fun x => by
    rw [sitofp_eq, toInt_clip_add _ _ _ (bounds_small x).1.1 (bounds_small x).1.2 (bounds_small x).2.1 (bounds_small x).2.2, hsel, ← EReal.coe_mul]
    rfl
  simp only [e]
  rw [sitofp_eq, toInt_present, hsel, ← EReal.coe_mul, coe_sum, coe_sum, ← EReal.coe_add]
  refine congrArg _ ?_
  rw [Fin.sum_univ_five, Finset.sum_const]
  have n0 : (![0#32, 15#32, 36#32, 47#32, 56#32] (0 : Fin 5)).toInt = 0 := by decide
  have n1 : (![0#32, 15#32, 36#32, 47#32, 56#32] (1 : Fin 5)).toInt = 15 := by decide
  have n2 : (![0#32, 15#32, 36#32, 47#32, 56#32] (2 : Fin 5)).toInt = 36 := by decide
  have n3 : (![0#32, 15#32, 36#32, 47#32, 56#32] (3 : Fin 5)).toInt = 47 := by decide
  have n4 : (![0#32, 15#32, 36#32, 47#32, 56#32] (4 : Fin 5)).toInt = 56 := by decide
  rw [n0, n1, n2, n3, n4]
  rw [Finset.card_univ, Fintype.card_fin, one_smul]
  refine chosen_sum l.val _ _ _ _ _ _ (idN 14#32 xs 0) (idN 20#32 xs 1) (idN 10#32 xs 2) (idN 8#32 xs 3) (idN 9#32 xs 4) (present rs) ?_ ?_ ?_ ?_ ?_ ?_
  all_goals push_cast; try simp
  all_goals rfl

include hsel in
/-- A row's indicator, as a real number. -/
theorem featE_eq (l : Fin 128) :
    featE ![14#32, 20#32, 10#32, 8#32, 9#32] ![0#32, 15#32, 36#32, 47#32, 56#32] sel xs rs l
      = ((hot (idN 14#32 xs 0) (idN 20#32 xs 1) (idN 10#32 xs 2) (idN 8#32 xs 3) (idN 9#32 xs 4) (present rs) l.val : ℝ) : EReal) := by
  have hl := l.isLt
  unfold featE
  rw [spread_eq xs rs sel hsel l, sitofp_eq (BitVec.ofNat 32 l.val)]
  have hn : (BitVec.ofNat 32 l.val).toInt = (l.val : ℤ) := by
    rw [BitVec.toInt_eq_toNat_of_lt (by rw [BitVec.toNat_ofNat]; omega), BitVec.toNat_ofNat]; omega
  rw [hn]
  unfold hot
  by_cases h : chosen (idN 14#32 xs 0) (idN 20#32 xs 1) (idN 10#32 xs 2) (idN 8#32 xs 3) (idN 9#32 xs 4) (present rs) l.val = l.val
  · rw [if_pos h, h, decide_eq_true (by norm_cast), sitofp_eq]
    have : (BitVec.setWidth 32 (BitVec.ofBool true)).toInt = 1 := by decide
    rw [this]; norm_num
  · rw [if_neg h, decide_eq_false (fun e => h (by have := EReal.coe_eq_coe_iff.mp e; exact_mod_cast this)), sitofp_eq]
    have : (BitVec.setWidth 32 (BitVec.ofBool false)).toInt = 0 := by decide
    rw [this]; norm_num

end

end Cert.KernelIdeal.Gen

end
-- ==== Proof.KernelRow.lean ====
/- The kernel's result at an index equals the reference's row formula over the reals. -/
module

public import proofs.«01_k».proof.Proof.Final
public import proofs.«01_k».proof.Proof.PrepVal
public import proofs.«01_k».proof.Proof.Consts
public import proofs.«01_k».proof.Proof.Feat

@[expose] public section

set_option maxRecDepth 16384

noncomputable section

namespace Cert.KernelIdeal.Gen

open Idealize.ShloMosaic Idealize.ShloMosaic.TcCoe Idealize.ShloMosaic.Tactic
open Cert.RowMath Cert.Words
open scoped BigOperators

variable (m : (ℓ : Loc nD τ sig) → Buf (Elt Ideal) ℓ) (ρ : Dev nD → PrngReg) (c : Dev nD)

/-- The first region's block 0 is the launch contents of its argument. -/
theorem blk_0 : iblk0 (V1 m ρ) c 0 t0_0 = m ((c : Thread nD τ).loc main_arg2) :=
  (iblk0_0 (V1 m ρ) c).trans (W1_args m ρ c main_arg2 (by decide))

/-- The first region's block 1 is the launch contents of its argument. -/
theorem blk_1 : iblk0 (V1 m ρ) c 1 t0_0 = m ((c : Thread nD τ).loc main_arg3) :=
  (iblk0_1 (V1 m ρ) c).trans (W1_args m ρ c main_arg3 (by decide))

/-- The first region's block 2 is the launch contents of its argument. -/
theorem blk_2 : iblk0 (V1 m ρ) c 2 t0_0 = m ((c : Thread nD τ).loc main_arg4) :=
  (iblk0_2 (V1 m ρ) c).trans (W1_args m ρ c main_arg4 (by decide))

/-- The first region's block 3 is the launch contents of its argument. -/
theorem blk_3 : iblk0 (V1 m ρ) c 3 t0_0 = m ((c : Thread nD τ).loc main_arg5) :=
  (iblk0_3 (V1 m ρ) c).trans (W1_args m ρ c main_arg5 (by decide))

/-- The first region's block 4 is the launch contents of its argument. -/
theorem blk_4 : iblk0 (V1 m ρ) c 4 t0_0 = m ((c : Thread nD τ).loc main_arg6) :=
  (iblk0_4 (V1 m ρ) c).trans (W1_args m ρ c main_arg6 (by decide))

/-- The first region's block 5 is the launch contents of its argument. -/
theorem blk_5 : iblk0 (V1 m ρ) c 5 t0_0 = m ((c : Thread nD τ).loc main_arg7) :=
  (iblk0_5 (V1 m ρ) c).trans (W1_args m ρ c main_arg7 (by decide))

/-- The first region's block 6 is the launch contents of its argument. -/
theorem blk_6 : iblk0 (V1 m ρ) c 6 t0_0 = m ((c : Thread nD τ).loc main_arg8) :=
  (iblk0_6 (V1 m ρ) c).trans (W1_args m ρ c main_arg8 (by decide))

/-- The first region's block 7 is the launch contents of its argument. -/
theorem blk_7 : iblk0 (V1 m ρ) c 7 t0_0 = m ((c : Thread nD τ).loc main_arg9) :=
  (iblk0_7 (V1 m ρ) c).trans (W1_args m ρ c main_arg9 (by decide))

/-- The first region's block 8 is the launch contents of its argument. -/
theorem blk_8 : iblk0 (V1 m ρ) c 8 t0_0 = m ((c : Thread nD τ).loc main_arg10) :=
  (iblk0_8 (V1 m ρ) c).trans (W1_args m ρ c main_arg10 (by decide))

/-- The first region's block 9 is the launch contents of its argument. -/
theorem blk_9 : iblk0 (V1 m ρ) c 9 t0_0 = m ((c : Thread nD τ).loc main_arg11) :=
  (iblk0_9 (V1 m ρ) c).trans (W1_args m ρ c main_arg11 (by decide))

/-- The first region's block 10 is the launch contents of its argument. -/
theorem blk_10 : iblk0 (V1 m ρ) c 10 t0_0 = m ((c : Thread nD τ).loc main_arg12) :=
  (iblk0_10 (V1 m ρ) c).trans (W1_args m ρ c main_arg12 (by decide))

/-- The first region's block 11 is the launch contents of its argument. -/
theorem blk_11 : iblk0 (V1 m ρ) c 11 t0_0 = m ((c : Thread nD τ).loc main_arg13) :=
  (iblk0_11 (V1 m ρ) c).trans (W1_args m ρ c main_arg13 (by decide))

/-- The first region's block 12 is the launch contents of its argument. -/
theorem blk_12 : iblk0 (V1 m ρ) c 12 t0_0 = m ((c : Thread nD τ).loc main_arg14) :=
  (iblk0_12 (V1 m ρ) c).trans (W1_args m ρ c main_arg14 (by decide))

/-- The first region's block 13 is the launch contents of its argument. -/
theorem blk_13 : iblk0 (V1 m ρ) c 13 t0_0 = m ((c : Thread nD τ).loc main_arg15) :=
  (iblk0_13 (V1 m ρ) c).trans (W1_args m ρ c main_arg15 (by decide))

/-- A row's continuous projection: the five padded columns contribute nothing. -/
theorem contE_eq (w : Vec Ideal S32x11 .f32) (bb : Vec Ideal S1x32 .f32) (xs : Fin 11 → EReal) (Q : ℕ → ℕ → ℝ) (qb xc : ℕ → ℝ)
    (hw : ∀ (q : Fin 32) (k : Fin 11), w (ix2 q k) = ((if k.val < 5 then 0 else Q q.val (k.val - 5) : ℝ) : EReal))
    (hb : ∀ q : Fin 32, bb (ix2 0 q) = ((qb q.val : ℝ) : EReal))
    (hx : ∀ k : Fin 6, xs ⟨5 + k.val, by omega⟩ = ((xc k.val : ℝ) : EReal)) (q : Fin 32) :
    contE w bb xs q = (((∑ k : Fin 6, xc k.val * Q q.val k.val) + qb q.val : ℝ) : EReal) := by
  unfold contE
  have e : ∑ x, xs x * w (ix2 q x) = ((∑ k : Fin 6, xc k.val * Q q.val k.val : ℝ) : EReal) := by
    refine (Fin.sum_univ_add (M := EReal) (a := 5) (b := 6) (fun x : Fin 11 => xs x * w (ix2 q x))).trans ?_
    rw [← coe_sum, Finset.sum_eq_zero, zero_add]
    · refine Finset.sum_congr rfl fun k _ => ?_
      rw [hw]
      rw [EReal.coe_mul, ← hx k]
      refine congrArg₂ (· * ·) rfl ?_
      have e5 : (Fin.natAdd 5 k : Fin 11).val = 5 + k.val := rfl
      rw [e5, if_neg (by omega), Nat.add_sub_cancel_left]
    · intro k _
      have e5 : (Fin.castAdd 6 k : Fin 11).val = k.val := rfl
      rw [hw, e5, if_pos k.isLt, EReal.coe_zero, mul_zero]
  rw [e, hb, ← EReal.coe_add]

variable (P2 P3 P4 P5 P6 KP Q : ℕ → ℕ → ℝ) (KE kb qb g : ℕ → ℝ) (W : ℕ → ℕ → ℝ) (xc : Fin 1024 → Fin 50 → ℕ → ℝ) (kn : ℕ → ℝ)

set_option maxHeartbeats 4000000 in
/-- The kernel's result at an index is the reference's row formula on the concatenated row of the arguments. -/
theorem kernel_row
    (hx : ∀ b s (k : Fin 6), (m ((c : Thread nD τ).loc main_arg0) : Vec Ideal S1024x50x11 .f32) (ix3 b s ⟨5 + k.val, by omega⟩) = ((xc b s k.val : ℝ) : EReal))
    (h2 : ∀ l j, (m ((c : Thread nD τ).loc main_arg2) : Vec Ideal S15x32 .f32) (ix2 l j) = ((P2 l.val j.val : ℝ) : EReal))
    (h3 : ∀ l j, (m ((c : Thread nD τ).loc main_arg3) : Vec Ideal S21x32 .f32) (ix2 l j) = ((P3 l.val j.val : ℝ) : EReal))
    (h4 : ∀ l j, (m ((c : Thread nD τ).loc main_arg4) : Vec Ideal S11x16 .f32) (ix2 l j) = ((P4 l.val j.val : ℝ) : EReal))
    (h5 : ∀ l j, (m ((c : Thread nD τ).loc main_arg5) : Vec Ideal S9x16 .f32) (ix2 l j) = ((P5 l.val j.val : ℝ) : EReal))
    (h6 : ∀ l j, (m ((c : Thread nD τ).loc main_arg6) : Vec Ideal S10x16 .f32) (ix2 l j) = ((P6 l.val j.val : ℝ) : EReal))
    (h7 : ∀ p : Fin 32, (m ((c : Thread nD τ).loc main_arg7) : Vec Ideal S2x32 .f32) (ix2 1 p) = ((KE p.val : ℝ) : EReal))
    (h8 : ∀ q p : Fin 32, (m ((c : Thread nD τ).loc main_arg8) : Vec Ideal S32x32 .f32) (ix2 q p) = ((KP q.val p.val : ℝ) : EReal))
    (h9 : ∀ q : Fin 32, (m ((c : Thread nD τ).loc main_arg9) : Vec Ideal S32 .f32) (ix1 q) = ((kb q.val : ℝ) : EReal))
    (h10 : ∀ (q : Fin 32) (k : Fin 6), (m ((c : Thread nD τ).loc main_arg10) : Vec Ideal S32x6 .f32) (ix2 q k) = ((Q q.val k.val : ℝ) : EReal))
    (h11 : ∀ q : Fin 32, (m ((c : Thread nD τ).loc main_arg11) : Vec Ideal S32 .f32) (ix1 q) = ((qb q.val : ℝ) : EReal))
    (h12 : ∀ j : Fin 176, (m ((c : Thread nD τ).loc main_arg12) : Vec Ideal S176 .f32) (ix1 j) = ((g j.val : ℝ) : EReal))
    (h14 : ∀ (o : Fin 512) (j : Fin 176), (m ((c : Thread nD τ).loc main_arg14) : Vec Ideal S512x176 .f32) (ix2 o j) = ((W o.val j.val : ℝ) : EReal))
    (b : Fin 1024) (s : Fin 50) (o : Fin 512)
    (hkn : ∀ q, kn q = if present (fun k => (m ((c : Thread nD τ).loc main_arg1) : Vec Ideal S1024x50x8 .i32) (ix3 b s k)) = 0 then kb q else kanaRow KP KE kb q) :
    ((dat1 (V2 m ρ) c).arrAt 11 cfg1.N : Vec Ideal S1024x50x512 .f32) (ix3 b s o)
      = Cert.ReferenceIdeal.Value.lnE
          (fun j => ((hrow P2 P3 P4 P5 P6 kn (fun q => (∑ k : Fin 6, xc b s k.val * Q q k.val) + qb q)
            (idN 14#32 (fun x => (m ((c : Thread nD τ).loc main_arg0) : Vec Ideal S1024x50x11 .f32) (ix3 b s x)) 0) (idN 20#32 (fun x => (m ((c : Thread nD τ).loc main_arg0) : Vec Ideal S1024x50x11 .f32) (ix3 b s x)) 1)
            (idN 10#32 (fun x => (m ((c : Thread nD τ).loc main_arg0) : Vec Ideal S1024x50x11 .f32) (ix3 b s x)) 2) (idN 8#32 (fun x => (m ((c : Thread nD τ).loc main_arg0) : Vec Ideal S1024x50x11 .f32) (ix3 b s x)) 3)
            (idN 9#32 (fun x => (m ((c : Thread nD τ).loc main_arg0) : Vec Ideal S1024x50x11 .f32) (ix3 b s x)) 4) j.val : ℝ) : EReal))
          (fun j => ((g j.val : ℝ) : EReal)) (fun j => (m ((c : Thread nD τ).loc main_arg13) : Vec Ideal S176 .f32) (ix1 j)) (fun j => ((W o.val j.val : ℝ) : EReal))
          ((m ((c : Thread nD τ).loc main_arg15) : Vec Ideal S512 .f32) (ix1 o)) (Ideal.ofBits .f32 0x43300000#32) (Ideal.ofBits .f32 0x3727C5AC#32) := by
  have hid : ∀ (hi : BitVec 32) (k : Fin 11) (N : ℕ), 0 ≤ hi.toInt → hi.toInt < (N : ℤ) →
      idN hi (fun x => (m ((c : Thread nD τ).loc main_arg0) : Vec Ideal S1024x50x11 .f32) (ix3 b s x)) k < N := fun hi k N h0 h1 => by
    have := clipN_le hi (FloatOps.fptosi (F := Ideal) (φ := .f32) 32 ((m ((c : Thread nD τ).loc main_arg0) : Vec Ideal S1024x50x11 .f32) (ix3 b s k))) h0
    show clipN hi (FloatOps.fptosi (F := Ideal) (φ := .f32) 32 ((m ((c : Thread nD τ).loc main_arg0) : Vec Ideal S1024x50x11 .f32) (ix3 b s k))) < N
    omega
  have a0 : (V2 m ρ c main_arg0 : Vec Ideal S1024x50x11 .f32) = (m ((c : Thread nD τ).loc main_arg0) : Vec Ideal S1024x50x11 .f32) := W2_args m ρ c main_arg0 (by decide)
  have a1 : (V2 m ρ c main_arg1 : Vec Ideal S1024x50x8 .i32) = (m ((c : Thread nD τ).loc main_arg1) : Vec Ideal S1024x50x8 .i32) := W2_args m ρ c main_arg1 (by decide)
  have hE : ∀ (l : Fin 68) (j : Fin 176), blkE (V1 m ρ) c t0_0 (ix2 l j)
      = ((erow P2 P3 P4 P5 P6 kb (kanaRow KP KE kb) l.val j.val : ℝ) : EReal) := fun l j =>
    prepE_apply _ _ _ _ _ _ _ _ P2 P3 P4 P5 P6 KP KE kb
      (fun l j => (congrFun (blk_0 m ρ c) (ix2 l j)).trans (h2 l j)) (fun l j => (congrFun (blk_1 m ρ c) (ix2 l j)).trans (h3 l j))
      (fun l j => (congrFun (blk_2 m ρ c) (ix2 l j)).trans (h4 l j)) (fun l j => (congrFun (blk_3 m ρ c) (ix2 l j)).trans (h5 l j))
      (fun l j => (congrFun (blk_4 m ρ c) (ix2 l j)).trans (h6 l j)) (fun p => (congrFun (blk_5 m ρ c) (ix2 1 p)).trans (h7 p))
      (fun q p => (congrFun (blk_6 m ρ c) (ix2 q p)).trans (h8 q p)) (fun q => (congrFun (blk_7 m ρ c) (ix1 q)).trans (h9 q)) l j
  have he : ∀ l j : ℕ, 68 ≤ l → erow P2 P3 P4 P5 P6 kb (kanaRow KP KE kb) l j = 0 := fun l j hl => erow_past _ _ _ _ _ _ _ l j hl
  have g12 : ∀ j : Fin 176, (iblk0 (V1 m ρ) c 10 t0_0 : Vec Ideal S176 .f32) (ix1 j) = ((g j.val : ℝ) : EReal) := fun j =>
    (congrFun (blk_10 m ρ c) (ix1 j)).trans (h12 j)
  have g14 : ∀ (o : Fin 512) (j : Fin 176), (iblk0 (V1 m ρ) c 12 t0_0 : Vec Ideal S512x176 .f32) (ix2 o j) = ((W o.val j.val : ℝ) : EReal) := fun o j =>
    (congrFun (blk_12 m ρ c) (ix2 o j)).trans (h14 o j)
  have eT := (W2_14 m ρ c).trans (outs0_14 (V1 m ρ) c t0_0)
  have eS := (W2_15 m ρ c).trans (outs0_15 (V1 m ρ) c t0_0)
  have eG := (W2_16 m ρ c).trans (outs0_16 (V1 m ρ) c t0_0)
  have eP := (W2_17 m ρ c).trans (outs0_17 (V1 m ρ) c t0_0)
  have eB := (W2_18 m ρ c).trans (outs0_18 (V1 m ρ) c t0_0)
  have eW := (W2_19 m ρ c).trans (outs0_19 (V1 m ρ) c t0_0)
  have eI := (W2_20 m ρ c).trans (outs0_20 (V1 m ρ) c t0_0)
  rw [arr11_apply]
  refine Cert.RowFinal.row_eq P2 P3 P4 P5 P6 kb (kanaRow KP KE kb) kn (fun q => (∑ k : Fin 6, xc b s k.val * Q q k.val) + qb q) _ _ _ _ _
    (present fun k => (m ((c : Thread nD τ).loc main_arg1) : Vec Ideal S1024x50x8 .i32) (ix3 b s k)) (hid _ _ _ (by decide) (by decide)) (hid _ _ _ (by decide) (by decide))
    (hid _ _ _ (by decide) (by decide)) (hid _ _ _ (by decide) (by decide)) (hid _ _ _ (by decide) (by decide)) (present_lt _)
    hkn g W _ _ _ _ _ _ _ _ _ o ?_ ?_ ?_ ?_ ?_ ?_ ?_ ?_
  · intro l
    rw [a0, a1, show (fun x : Fin 5 => (V2 m ρ c main_c : Vec Ideal S2x8 .i32) (ix2 0 ⟨x.val, by omega⟩)) = ![14#32, 20#32, 10#32, 8#32, 9#32] from
      funext (bounds_apply m ρ c).1, show (fun x : Fin 5 => (V2 m ρ c main_c : Vec Ideal S2x8 .i32) (ix2 1 ⟨x.val, by omega⟩)) = ![0#32, 15#32, 36#32, 47#32, 56#32] from
      funext (bounds_apply m ρ c).2]
    exact featE_eq _ _ _ (sel_apply m ρ c) l
  · intro q
    rw [a0]
    refine contE_eq _ _ _ Q qb (fun k => xc b s k) (fun q k => ?_) (fun q => ?_) (fun k => hx b s k) q
    · exact (congrFun eP (ix2 q k)).trans (contP_apply _ Q (fun q k => (congrFun (blk_8 m ρ c) (ix2 q k)).trans (h10 q k)) q k)
    · exact (congrFun eB (ix2 0 q)).trans ((contB_apply _ 0 q).trans ((congrFun (blk_9 m ρ c) (ix1 q)).trans (h11 q)))
  · intro l
    exact (congrFun eS (ix2 l 0)).trans (sums_apply _ _ hE he l).1
  · intro l
    exact (congrFun eS (ix2 l 1)).trans (sums_apply _ _ hE he l).2
  · intro l
    exact (congrFun eT (ix2 l o)).trans (table_apply _ _ hE he _ _ g W g12 g14 l o)
  · intro q
    exact (congrFun eG (ix2 o q)).trans (contW_apply _ _ g W g12 g14 o q)
  · exact (congrFun eW (ix2 0 o)).trans (wsum_apply _ _ g W g12 g14 0 o)
  · refine (congrFun eI (ix2 0 o)).trans ((bias_apply _ _ _ 0 o).trans ?_)
    refine congrArg₂ (· + ·) (Finset.sum_congr rfl fun j _ => ?_) (congrFun (blk_13 m ρ c) (ix1 o))
    exact congrArg₂ (· * ·) (congrFun (blk_11 m ρ c) (ix1 j)) (g14 o j)

end Cert.KernelIdeal.Gen

end
-- ==== Proof.Gather.lean ====
/- Rows of a table taken at an array of row numbers, read at an index. -/
module

public import Idealize.ShloMosaic.PureOps
public import Idealize.ShloMosaic.Lib.ValueIdxCore

@[expose] public section

noncomputable section

namespace Cert.TableRows

open Idealize.ShloMosaic Idealize.ShloMosaic.ValueIdx

variable {α : Type}

/-- Taking rows of an `[N, D]` table at a `[B, S]` array of row numbers. -/
abbrev dims3 (N D B S : Nat)
    (wf : GatherDims.WF ⟨2, ![N, D]⟩ ⟨3, ![B, S, 1]⟩ ⟨3, ![B, S, D]⟩ [2] [0] [] [0] [] 2 ![1, D]) :
    GatherDims ⟨2, ![N, D]⟩ ⟨3, ![B, S, 1]⟩ ⟨3, ![B, S, D]⟩ where
  offsetDims := [2]
  collapsedSliceDims := [0]
  operandBatchingDims := []
  startIndicesBatchingDims := []
  startIndexMap := [0]
  indexVectorDim := 2
  sliceSizes := ![1, D]
  wf := wf

/-- Where the array of row numbers holds `k`, the taken row is row `k`. -/
theorem gather3 {N D B S : Nat}
    (wf : GatherDims.WF ⟨2, ![N, D]⟩ ⟨3, ![B, S, 1]⟩ ⟨3, ![B, S, D]⟩ [2] [0] [] [0] [] 2 ![1, D])
    (x : (⟨2, ![N, D]⟩ : Shape).Idx → α) (idx : IVec ⟨3, ![B, S, 1]⟩ 32) (b : Fin B) (s : Fin S) (j : Fin D) (k : Fin N)
    (hk : (idx (ix3 b s (0 : Fin 1))).toInt.toNat = k.val) :
    Host.gather (dims3 N D B S wf) x idx (ix3 b s j) = x (ix2 k j) := by
  unfold Host.gather
  refine congrArg x (funext fun a => Fin.ext ?_)
  match a with
  | ⟨0, _⟩ =>
    show (dims3 N D B S wf).start (ix3 b s j) idx 0 + (dims3 N D B S wf).batchCoord (ix3 b s j) 0
      + (dims3 N D B S wf).offCoord (ix3 b s j) 0 = k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims3 N D B S wf).startIndexMap from List.mem_singleton.mpr rfl)]
    have hsi : (dims3 N D B S wf).siIdx (ix3 b s j) ⟨List.idxOf (0 : Fin 2) (dims3 N D B S wf).startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi, hk]
    exact Nat.min_eq_left (Nat.le_sub_one_of_lt k.isLt)
  | ⟨1, _⟩ =>
    show (dims3 N D B S wf).start (ix3 b s j) idx 1 + (dims3 N D B S wf).batchCoord (ix3 b s j) 1
      + (dims3 N D B S wf).offCoord (ix3 b s j) 1 = j.val
    rw [GatherDims.batchCoord_eq_zero _ _ _ List.not_mem_nil]
    have h1 : (dims3 N D B S wf).start (ix3 b s j) idx 1 = 0 := rfl
    rw [h1]
    have h2 : (dims3 N D B S wf).offCoord (ix3 b s j) 1 = j.val := rfl
    rw [h2]; omega

/-- Taking rows of an `[N, D]` table at a `[B, S, K]` array of row numbers. -/
abbrev dims4 (N D B S K : Nat)
    (wf : GatherDims.WF ⟨2, ![N, D]⟩ ⟨4, ![B, S, K, 1]⟩ ⟨4, ![B, S, K, D]⟩ [3] [0] [] [0] [] 3 ![1, D]) :
    GatherDims ⟨2, ![N, D]⟩ ⟨4, ![B, S, K, 1]⟩ ⟨4, ![B, S, K, D]⟩ where
  offsetDims := [3]
  collapsedSliceDims := [0]
  operandBatchingDims := []
  startIndicesBatchingDims := []
  startIndexMap := [0]
  indexVectorDim := 3
  sliceSizes := ![1, D]
  wf := wf

/-- Where the array of row numbers holds `k`, the taken row is row `k`. -/
theorem gather4 {N D B S K : Nat}
    (wf : GatherDims.WF ⟨2, ![N, D]⟩ ⟨4, ![B, S, K, 1]⟩ ⟨4, ![B, S, K, D]⟩ [3] [0] [] [0] [] 3 ![1, D])
    (x : (⟨2, ![N, D]⟩ : Shape).Idx → α) (idx : IVec ⟨4, ![B, S, K, 1]⟩ 32) (b : Fin B) (s : Fin S) (q : Fin K) (j : Fin D)
    (k : Fin N) (hk : (idx (ix4 b s q (0 : Fin 1))).toInt.toNat = k.val) :
    Host.gather (dims4 N D B S K wf) x idx (ix4 b s q j) = x (ix2 k j) := by
  unfold Host.gather
  refine congrArg x (funext fun a => Fin.ext ?_)
  match a with
  | ⟨0, _⟩ =>
    show (dims4 N D B S K wf).start (ix4 b s q j) idx 0 + (dims4 N D B S K wf).batchCoord (ix4 b s q j) 0
      + (dims4 N D B S K wf).offCoord (ix4 b s q j) 0 = k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims4 N D B S K wf).startIndexMap from List.mem_singleton.mpr rfl)]
    have hsi : (dims4 N D B S K wf).siIdx (ix4 b s q j) ⟨List.idxOf (0 : Fin 2) (dims4 N D B S K wf).startIndexMap,
        List.idxOf_lt_length_iff.2 (List.mem_singleton.mpr rfl)⟩ = ix4 b s q (0 : Fin 1) := by
      funext c; refine Fin.ext ?_
      match c with
      | ⟨0, _⟩ => rfl
      | ⟨1, _⟩ => rfl
      | ⟨2, _⟩ => rfl
      | ⟨3, _⟩ => rfl
    rw [hsi, hk]
    exact Nat.min_eq_left (Nat.le_sub_one_of_lt k.isLt)
  | ⟨1, _⟩ =>
    show (dims4 N D B S K wf).start (ix4 b s q j) idx 1 + (dims4 N D B S K wf).batchCoord (ix4 b s q j) 1
      + (dims4 N D B S K wf).offCoord (ix4 b s q j) 1 = j.val
    rw [GatherDims.batchCoord_eq_zero _ _ _ List.not_mem_nil]
    have h1 : (dims4 N D B S K wf).start (ix4 b s q j) idx 1 = 0 := rfl
    rw [h1]
    have h2 : (dims4 N D B S K wf).offCoord (ix4 b s q j) 1 = j.val := rfl
    rw [h2]; omega

end Cert.TableRows

end
-- ==== Proof.RefVal.lean ====
/- The reference's concatenated row at an index, over the reals. -/
module

public import proofs.«01_k».proof.Proof.Gen.ReferenceIdeal.Run
public import proofs.«01_k».proof.Proof.Gather
public import proofs.«01_k».proof.Proof.Words
public import proofs.«01_k».proof.Proof.RealMath
public import Idealize.ShloMosaic.Lib.Pointwise

@[expose] public section

set_option maxRecDepth 16384

noncomputable section

namespace Cert.ReferenceIdeal.Value

open Idealize.ShloMosaic Idealize.ShloMosaic.TcCoe Idealize.ShloMosaic.Tactic
open Cert.RowMath Cert.Words Cert.TableRows
open scoped BigOperators

variable (V0 : Valuation τ sig (Elt Ideal))

/-- An id column of the reference, clipped. -/
abbrev idW (hi : BitVec 32) (b : Fin 1024) (s : Fin 50) (k : Fin 11) : BitVec 32 :=
  IntOp.minsi hi (IntOp.maxsi 0#32 (FloatOps.fptosi (F := Ideal) (φ := .f32) 32 ((V0 (Proc.devRef .tc main_arg0) : Vec Ideal S1024x50x11 .f32) (ix3 b s k))))

/-- The same as a natural number. -/
abbrev idR (hi : BitVec 32) (b : Fin 1024) (s : Fin 50) (k : Fin 11) : ℕ :=
  clipN hi (FloatOps.fptosi (F := Ideal) (φ := .f32) 32 ((V0 (Proc.devRef .tc main_arg0) : Vec Ideal S1024x50x11 .f32) (ix3 b s k)))

/-- A clipped id is below the length of its table. -/
theorem idR_lt (hi : BitVec 32) (b : Fin 1024) (s : Fin 50) (k : Fin 11) (N : ℕ) (h0 : 0 ≤ hi.toInt) (h : hi.toInt < (N : ℤ)) :
    idR V0 hi b s k < N := by
  have := clipN_le hi (FloatOps.fptosi (F := Ideal) (φ := .f32) 32 ((V0 (Proc.devRef .tc main_arg0) : Vec Ideal S1024x50x11 .f32) (ix3 b s k))) h0
  show clipN _ _ < N
  omega

/-- Id column 0 at an index. -/
theorem ids0 (b : Fin 1024) (s : Fin 50) (z : Fin 1) : (res_main_call5_v5 V0 : Vec Ideal S1024x50x1 .i32) (ix3 b s z) = idW V0 14#32 b s 0 := by
  pointwise [res_main_call5_v5, res_main_v5, res_main_v1]
  exact wrap_clip 14#32 _ 15#32 (by decide)

/-- Table 0 looked up at an index: every clipped id is in range, so the row is the table's. -/
theorem seg0 (b : Fin 1024) (s : Fin 50) (y : Fin 32) (S : Finset S1024x50x1.Idx) (nan : EReal) :
    Scalar.select (Finset.fold IntOp.andi 1#1 (fun x => IntOp.andi (IntOp.cmpi .sge ((res_main_call5_v5 V0 : Vec Ideal S1024x50x1 .i32) x) 0#32)
        (IntOp.cmpi .sle ((res_main_call5_v5 V0 : Vec Ideal S1024x50x1 .i32) x) 14#32)) S)
      ((Host.gather gather_S15x32_S1024x50x1_S1024x50x32_2_0_n_n_0_2_132 (V0 (Proc.devRef .tc main_arg2) : Vec Ideal S15x32 .f32) (res_main_call5_v5 V0 : Vec Ideal S1024x50x1 .i32) (ix3 b s y)) : EReal) nan
      = (V0 (Proc.devRef .tc main_arg2) : Vec Ideal S15x32 .f32) (ix2 (⟨idR V0 14#32 b s 0, idR_lt V0 14#32 b s 0 15 (by decide) (by decide)⟩ : Fin 15) y) := by
  rw [fold_andi_one S _ fun i => by
    obtain ⟨b', s', z', rfl⟩ : ∃ (b' : Fin 1024) (s' : Fin 50) (z' : Fin 1), i = ix3 b' s' z' :=
      ⟨i 0, i 1, i 2, by funext d; fin_cases d <;> rfl⟩
    rw [ids0]
    exact inRange_clip 14#32 _ (by decide)]
  refine (if_pos rfl).trans ?_
  refine gather3 (N := 15) (D := 32) (B := 1024) (S := 50) _ _ _ b s y _ ?_
  exact congrArg (fun v : BitVec 32 => v.toInt.toNat) (ids0 V0 b s 0)

/-- Id column 1 at an index. -/
theorem ids1 (b : Fin 1024) (s : Fin 50) (z : Fin 1) : (res_main_call6_v5 V0 : Vec Ideal S1024x50x1 .i32) (ix3 b s z) = idW V0 20#32 b s 1 := by
  pointwise [res_main_call6_v5, res_main_v8, res_main_v1]
  exact wrap_clip 20#32 _ 21#32 (by decide)

/-- Table 1 looked up at an index: every clipped id is in range, so the row is the table's. -/
theorem seg1 (b : Fin 1024) (s : Fin 50) (y : Fin 32) (S : Finset S1024x50x1.Idx) (nan : EReal) :
    Scalar.select (Finset.fold IntOp.andi 1#1 (fun x => IntOp.andi (IntOp.cmpi .sge ((res_main_call6_v5 V0 : Vec Ideal S1024x50x1 .i32) x) 0#32)
        (IntOp.cmpi .sle ((res_main_call6_v5 V0 : Vec Ideal S1024x50x1 .i32) x) 20#32)) S)
      ((Host.gather gather_S21x32_S1024x50x1_S1024x50x32_2_0_n_n_0_2_132 (V0 (Proc.devRef .tc main_arg3) : Vec Ideal S21x32 .f32) (res_main_call6_v5 V0 : Vec Ideal S1024x50x1 .i32) (ix3 b s y)) : EReal) nan
      = (V0 (Proc.devRef .tc main_arg3) : Vec Ideal S21x32 .f32) (ix2 (⟨idR V0 20#32 b s 1, idR_lt V0 20#32 b s 1 21 (by decide) (by decide)⟩ : Fin 21) y) := by
  rw [fold_andi_one S _ fun i => by
    obtain ⟨b', s', z', rfl⟩ : ∃ (b' : Fin 1024) (s' : Fin 50) (z' : Fin 1), i = ix3 b' s' z' :=
      ⟨i 0, i 1, i 2, by funext d; fin_cases d <;> rfl⟩
    rw [ids1]
    exact inRange_clip 20#32 _ (by decide)]
  refine (if_pos rfl).trans ?_
  refine gather3 (N := 21) (D := 32) (B := 1024) (S := 50) _ _ _ b s y _ ?_
  exact congrArg (fun v : BitVec 32 => v.toInt.toNat) (ids1 V0 b s 0)

/-- Id column 2 at an index. -/
theorem ids2 (b : Fin 1024) (s : Fin 50) (z : Fin 1) : (res_main_call7_v5 V0 : Vec Ideal S1024x50x1 .i32) (ix3 b s z) = idW V0 10#32 b s 2 := by
  pointwise [res_main_call7_v5, res_main_v11, res_main_v1]
  exact wrap_clip 10#32 _ 11#32 (by decide)

/-- Table 2 looked up at an index: every clipped id is in range, so the row is the table's. -/
theorem seg2 (b : Fin 1024) (s : Fin 50) (y : Fin 16) (S : Finset S1024x50x1.Idx) (nan : EReal) :
    Scalar.select (Finset.fold IntOp.andi 1#1 (fun x => IntOp.andi (IntOp.cmpi .sge ((res_main_call7_v5 V0 : Vec Ideal S1024x50x1 .i32) x) 0#32)
        (IntOp.cmpi .sle ((res_main_call7_v5 V0 : Vec Ideal S1024x50x1 .i32) x) 10#32)) S)
      ((Host.gather gather_S11x16_S1024x50x1_S1024x50x16_2_0_n_n_0_2_116 (V0 (Proc.devRef .tc main_arg4) : Vec Ideal S11x16 .f32) (res_main_call7_v5 V0 : Vec Ideal S1024x50x1 .i32) (ix3 b s y)) : EReal) nan
      = (V0 (Proc.devRef .tc main_arg4) : Vec Ideal S11x16 .f32) (ix2 (⟨idR V0 10#32 b s 2, idR_lt V0 10#32 b s 2 11 (by decide) (by decide)⟩ : Fin 11) y) := by
  rw [fold_andi_one S _ fun i => by
    obtain ⟨b', s', z', rfl⟩ : ∃ (b' : Fin 1024) (s' : Fin 50) (z' : Fin 1), i = ix3 b' s' z' :=
      ⟨i 0, i 1, i 2, by funext d; fin_cases d <;> rfl⟩
    rw [ids2]
    exact inRange_clip 10#32 _ (by decide)]
  refine (if_pos rfl).trans ?_
  refine gather3 (N := 11) (D := 16) (B := 1024) (S := 50) _ _ _ b s y _ ?_
  exact congrArg (fun v : BitVec 32 => v.toInt.toNat) (ids2 V0 b s 0)

/-- Id column 3 at an index. -/
theorem ids3 (b : Fin 1024) (s : Fin 50) (z : Fin 1) : (res_main_call8_v5 V0 : Vec Ideal S1024x50x1 .i32) (ix3 b s z) = idW V0 8#32 b s 3 := by
  pointwise [res_main_call8_v5, res_main_v14, res_main_v1]
  exact wrap_clip 8#32 _ 9#32 (by decide)

/-- Table 3 looked up at an index: every clipped id is in range, so the row is the table's. -/
theorem seg3 (b : Fin 1024) (s : Fin 50) (y : Fin 16) (S : Finset S1024x50x1.Idx) (nan : EReal) :
    Scalar.select (Finset.fold IntOp.andi 1#1 (fun x => IntOp.andi (IntOp.cmpi .sge ((res_main_call8_v5 V0 : Vec Ideal S1024x50x1 .i32) x) 0#32)
        (IntOp.cmpi .sle ((res_main_call8_v5 V0 : Vec Ideal S1024x50x1 .i32) x) 8#32)) S)
      ((Host.gather gather_S9x16_S1024x50x1_S1024x50x16_2_0_n_n_0_2_116 (V0 (Proc.devRef .tc main_arg5) : Vec Ideal S9x16 .f32) (res_main_call8_v5 V0 : Vec Ideal S1024x50x1 .i32) (ix3 b s y)) : EReal) nan
      = (V0 (Proc.devRef .tc main_arg5) : Vec Ideal S9x16 .f32) (ix2 (⟨idR V0 8#32 b s 3, idR_lt V0 8#32 b s 3 9 (by decide) (by decide)⟩ : Fin 9) y) := by
  rw [fold_andi_one S _ fun i => by
    obtain ⟨b', s', z', rfl⟩ : ∃ (b' : Fin 1024) (s' : Fin 50) (z' : Fin 1), i = ix3 b' s' z' :=
      ⟨i 0, i 1, i 2, by funext d; fin_cases d <;> rfl⟩
    rw [ids3]
    exact inRange_clip 8#32 _ (by decide)]
  refine (if_pos rfl).trans ?_
  refine gather3 (N := 9) (D := 16) (B := 1024) (S := 50) _ _ _ b s y _ ?_
  exact congrArg (fun v : BitVec 32 => v.toInt.toNat) (ids3 V0 b s 0)

/-- Id column 4 at an index. -/
theorem ids4 (b : Fin 1024) (s : Fin 50) (z : Fin 1) : (res_main_call9_v5 V0 : Vec Ideal S1024x50x1 .i32) (ix3 b s z) = idW V0 9#32 b s 4 := by
  pointwise [res_main_call9_v5, res_main_v17, res_main_v1]
  exact wrap_clip 9#32 _ 10#32 (by decide)

/-- Table 4 looked up at an index: every clipped id is in range, so the row is the table's. -/
theorem seg4 (b : Fin 1024) (s : Fin 50) (y : Fin 16) (S : Finset S1024x50x1.Idx) (nan : EReal) :
    Scalar.select (Finset.fold IntOp.andi 1#1 (fun x => IntOp.andi (IntOp.cmpi .sge ((res_main_call9_v5 V0 : Vec Ideal S1024x50x1 .i32) x) 0#32)
        (IntOp.cmpi .sle ((res_main_call9_v5 V0 : Vec Ideal S1024x50x1 .i32) x) 9#32)) S)
      ((Host.gather gather_S10x16_S1024x50x1_S1024x50x16_2_0_n_n_0_2_116 (V0 (Proc.devRef .tc main_arg6) : Vec Ideal S10x16 .f32) (res_main_call9_v5 V0 : Vec Ideal S1024x50x1 .i32) (ix3 b s y)) : EReal) nan
      = (V0 (Proc.devRef .tc main_arg6) : Vec Ideal S10x16 .f32) (ix2 (⟨idR V0 9#32 b s 4, idR_lt V0 9#32 b s 4 10 (by decide) (by decide)⟩ : Fin 10) y) := by
  rw [fold_andi_one S _ fun i => by
    obtain ⟨b', s', z', rfl⟩ : ∃ (b' : Fin 1024) (s' : Fin 50) (z' : Fin 1), i = ix3 b' s' z' :=
      ⟨i 0, i 1, i 2, by funext d; fin_cases d <;> rfl⟩
    rw [ids4]
    exact inRange_clip 9#32 _ (by decide)]
  refine (if_pos rfl).trans ?_
  refine gather3 (N := 10) (D := 16) (B := 1024) (S := 50) _ _ _ b s y _ ?_
  exact congrArg (fun v : BitVec 32 => v.toInt.toNat) (ids4 V0 b s 0)

/-- The clipped readings at an index. -/
theorem rids (b : Fin 1024) (s : Fin 50) (k : Fin 8) (z : Fin 1) : (res_main_call11_v5 V0 : Vec Ideal S1024x50x8x1 .i32) (ix4 b s k z)
    = IntOp.minsi 1#32 (IntOp.maxsi 0#32 ((V0 (Proc.devRef .tc main_arg1) : Vec Ideal S1024x50x8 .i32) (ix3 b s k))) := by
  pointwise [res_main_call11_v5, res_main_v23]
  exact wrap_clip 1#32 _ 2#32 (by decide)

/-- The mask of a clipped word, over the reals. -/
theorem mask_word (v : BitVec 32) :
    FloatOps.uitofp (F := Ideal) .f32 (IntOp.cmpi .sgt (IntOp.minsi 1#32 (IntOp.maxsi 0#32 v)) 0#32)
      = (((if 1 ≤ v.toInt then 1 else 0) : ℝ) : EReal) := by
  have h := SortNet.toInt_minsi 1#32 (IntOp.maxsi 0#32 v)
  have h' := SortNet.toInt_maxsi (0#32) v
  have h0 : (0#32 : BitVec 32).toInt = 0 := by decide
  have h1 : (1#32 : BitVec 32).toInt = 1 := by decide
  have e : IntOp.cmpi .sgt (IntOp.minsi 1#32 (IntOp.maxsi 0#32 v)) 0#32 = BitVec.ofBool (decide (1 ≤ v.toInt)) := by
    unfold IntOp.cmpi
    refine congrArg BitVec.ofBool ?_
    simp only [BitVec.slt]
    exact decide_eq_decide.mpr (by omega)
  rw [e]
  by_cases c : 1 ≤ v.toInt
  · rw [if_pos c, decide_eq_true c]
    show (((BitVec.ofBool true).toNat : ℝ) : EReal) = _
    rw [show (BitVec.ofBool true).toNat = 1 by decide]; norm_num
  · rw [if_neg c, decide_eq_false c]
    show (((BitVec.ofBool false).toNat : ℝ) : EReal) = _
    rw [show (BitVec.ofBool false).toNat = 0 by decide]; norm_num

/-- The readings' mask at an index: one where the reading is at least one. -/
theorem mask_apply (b : Fin 1024) (s : Fin 50) (k : Fin 8) (z : Fin 1) : (res_main_v28 V0 : Vec Ideal S1024x50x8x1 .f32) (ix4 b s k z)
    = (((if 1 ≤ ((V0 (Proc.devRef .tc main_arg1) : Vec Ideal S1024x50x8 .i32) (ix3 b s k)).toInt then 1 else 0) : ℝ) : EReal) := by
  pointwise [res_main_v28, res_main_v23]
  exact mask_word _

/-- A sum of real numbers is the same number over the extended reals. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- Masked pooling of one repeated value: the value where anything is unmasked, zero otherwise. -/
theorem pooled (c : Fin 8 → Prop) [DecidablePred c] [Decidable (∃ k, c k)] (g : Fin 8 → EReal) (e : ℝ) (hg : ∀ k, c k → g k = (e : EReal)) (one : EReal)
    (h1 : one = ((1 : ℝ) : EReal)) :
    Ideal.div (∑ k, g k * (((if c k then 1 else 0) : ℝ) : EReal)) (max one (∑ k, (((if c k then 1 else 0) : ℝ) : EReal)))
      = (((if ∃ k, c k then e else 0) : ℝ) : EReal) := by
  have hs : ∀ k, g k * (((if c k then 1 else 0) : ℝ) : EReal) = ((e * (if c k then 1 else 0) : ℝ) : EReal) := fun k => by
    by_cases h : c k
    · rw [if_pos h, hg k h, ← EReal.coe_mul]
    · rw [if_neg h, mul_zero, EReal.coe_zero, mul_zero]
  simp only [hs]
  have hmax : ∀ x y : ℝ, max ((x : ℝ) : EReal) (y : EReal) = ((max x y : ℝ) : EReal) := fun x y =>
    (EReal.coe_strictMono.monotone.map_max).symm
  rw [coe_sum, coe_sum, ← Finset.mul_sum, h1, hmax]
  by_cases hex : ∃ k, c k
  · rw [if_pos hex]
    obtain ⟨k, hk⟩ := hex
    have hn : (1 : ℝ) ≤ ∑ k, (if c k then (1 : ℝ) else 0) :=
      le_trans (by rw [if_pos hk]) (Finset.single_le_sum (f := fun k => if c k then (1 : ℝ) else 0)
        (fun i _ => by show (0 : ℝ) ≤ if c i then (1 : ℝ) else 0; split_ifs <;> norm_num) (Finset.mem_univ k))
    rw [max_eq_right hn, Ideal.div_coe (by linarith), ← EReal.coe_mul]
    refine congrArg _ ?_
    field_simp
  · rw [if_neg hex]
    have hn : ∑ k, (if c k then (1 : ℝ) else 0) = 0 := Finset.sum_eq_zero fun k _ => if_neg fun h => hex ⟨k, h⟩
    rw [hn, max_eq_left (by norm_num), Ideal.div_coe (by norm_num), ← EReal.coe_mul]
    norm_num

/-- The word of one is the number one. -/
theorem one_word : (FloatOps.ofBits (F := Ideal) .f32 0x3F800000#32 : EReal) = ((1 : ℝ) : EReal) := by
  pointwise
  rfl

/-- The reading embedding looked up at an index: every clipped reading is in range, so the row is the table's. -/
theorem rseg (b : Fin 1024) (s : Fin 50) (k : Fin 8) (y : Fin 32) (S : Finset S1024x50x8x1.Idx) (nan : EReal)
    (h : 1 ≤ ((V0 (Proc.devRef .tc main_arg1) : Vec Ideal S1024x50x8 .i32) (ix3 b s k)).toInt) :
    Scalar.select (Finset.fold IntOp.andi 1#1 (fun x => IntOp.andi (IntOp.cmpi .sge ((res_main_call11_v5 V0 : Vec Ideal S1024x50x8x1 .i32) x) 0#32)
        (IntOp.cmpi .sle ((res_main_call11_v5 V0 : Vec Ideal S1024x50x8x1 .i32) x) 1#32)) S)
      ((Host.gather gather_S2x32_S1024x50x8x1_S1024x50x8x32_3_0_n_n_0_3_132 (V0 (Proc.devRef .tc main_arg7) : Vec Ideal S2x32 .f32) (res_main_call11_v5 V0 : Vec Ideal S1024x50x8x1 .i32) (ix4 b s k y)) : EReal) nan
      = (V0 (Proc.devRef .tc main_arg7) : Vec Ideal S2x32 .f32) (ix2 1 y) := by
  rw [fold_andi_one S _ fun i => by
    obtain ⟨b', s', k', z', rfl⟩ : ∃ (b' : Fin 1024) (s' : Fin 50) (k' : Fin 8) (z' : Fin 1), i = ix4 b' s' k' z' :=
      ⟨i 0, i 1, i 2, i 3, by funext d; fin_cases d <;> rfl⟩
    rw [rids]
    exact inRange_clip 1#32 _ (by decide)]
  refine (if_pos rfl).trans ?_
  refine gather4 (N := 2) (D := 32) (B := 1024) (S := 50) (K := 8) _ _ _ b s k y 1 ?_
  refine (congrArg (fun v : BitVec 32 => v.toInt.toNat) (rids V0 b s k 0)).trans ?_
  show (IntOp.minsi 1#32 (IntOp.maxsi 0#32 ((V0 (Proc.devRef .tc main_arg1) : Vec Ideal S1024x50x8 .i32) (ix3 b s k)))).toInt.toNat = 1
  have e := SortNet.toInt_minsi 1#32 (IntOp.maxsi 0#32 ((V0 (Proc.devRef .tc main_arg1) : Vec Ideal S1024x50x8 .i32) (ix3 b s k)))
  have e' := SortNet.toInt_maxsi (0#32) ((V0 (Proc.devRef .tc main_arg1) : Vec Ideal S1024x50x8 .i32) (ix3 b s k))
  have h0 : (0#32 : BitVec 32).toInt = 0 := by decide
  have h1 : (1#32 : BitVec 32).toInt = 1 := by decide
  omega

/-- The reference's reading embedding: the projected embedding of a present reading, the bias alone with none. -/
def kanaR (KP : ℕ → ℕ → ℝ) (KE kb : ℕ → ℝ) (b : Fin 1024) (s : Fin 50) (q : ℕ) : ℝ := by
  classical exact (∑ p : Fin 32, (if ∃ k : Fin 8, 1 ≤ ((V0 (Proc.devRef .tc main_arg1) : Vec Ideal S1024x50x8 .i32) (ix3 b s k)).toInt then KE p.val else 0) * KP q p.val) + kb q

set_option maxHeartbeats 4000000 in
/-- The concatenated row of the reference at an index, over the reals. -/
theorem row_apply (P2 P3 P4 P5 P6 KP Q : ℕ → ℕ → ℝ) (KE kb qb : ℕ → ℝ) (xc : Fin 1024 → Fin 50 → ℕ → ℝ)
    (hx : ∀ b s (k : Fin 6), (V0 (Proc.devRef .tc main_arg0) : Vec Ideal S1024x50x11 .f32) (ix3 b s ⟨5 + k.val, by omega⟩) = ((xc b s k.val : ℝ) : EReal))
    (h2 : ∀ l j, (V0 (Proc.devRef .tc main_arg2) : Vec Ideal S15x32 .f32) (ix2 l j) = ((P2 l.val j.val : ℝ) : EReal))
    (h3 : ∀ l j, (V0 (Proc.devRef .tc main_arg3) : Vec Ideal S21x32 .f32) (ix2 l j) = ((P3 l.val j.val : ℝ) : EReal))
    (h4 : ∀ l j, (V0 (Proc.devRef .tc main_arg4) : Vec Ideal S11x16 .f32) (ix2 l j) = ((P4 l.val j.val : ℝ) : EReal))
    (h5 : ∀ l j, (V0 (Proc.devRef .tc main_arg5) : Vec Ideal S9x16 .f32) (ix2 l j) = ((P5 l.val j.val : ℝ) : EReal))
    (h6 : ∀ l j, (V0 (Proc.devRef .tc main_arg6) : Vec Ideal S10x16 .f32) (ix2 l j) = ((P6 l.val j.val : ℝ) : EReal))
    (h7 : ∀ p : Fin 32, (V0 (Proc.devRef .tc main_arg7) : Vec Ideal S2x32 .f32) (ix2 1 p) = ((KE p.val : ℝ) : EReal))
    (h8 : ∀ q p : Fin 32, (V0 (Proc.devRef .tc main_arg8) : Vec Ideal S32x32 .f32) (ix2 q p) = ((KP q.val p.val : ℝ) : EReal))
    (h9 : ∀ q : Fin 32, (V0 (Proc.devRef .tc main_arg9) : Vec Ideal S32 .f32) (ix1 q) = ((kb q.val : ℝ) : EReal))
    (h10 : ∀ (q : Fin 32) (k : Fin 6), (V0 (Proc.devRef .tc main_arg10) : Vec Ideal S32x6 .f32) (ix2 q k) = ((Q q.val k.val : ℝ) : EReal))
    (h11 : ∀ q : Fin 32, (V0 (Proc.devRef .tc main_arg11) : Vec Ideal S32 .f32) (ix1 q) = ((qb q.val : ℝ) : EReal))
    (b : Fin 1024) (s : Fin 50) (j : Fin 176) :
    (res_main_v46 V0 : Vec Ideal S1024x50x176 .f32) (ix3 b s j)
      = ((hrow P2 P3 P4 P5 P6 (kanaR V0 KP KE kb b s) (fun q => (∑ k : Fin 6, xc b s k.val * Q q k.val) + qb q)
          (idR V0 14#32 b s 0) (idR V0 20#32 b s 1) (idR V0 10#32 b s 2) (idR V0 8#32 b s 3) (idR V0 9#32 b s 4) j.val : ℝ) : EReal) := by
  have hj := j.isLt
  pointwise [res_main_v46]
  generalize hh : hrow P2 P3 P4 P5 P6 _ _ _ _ _ _ _ j.val = hv
  unfold hrow at hh
  by_cases c0 : j.val < 32
  · rw [if_pos (by omega)] at hh
    rw [← hh]
    exact (dif_pos c0).trans ((seg0 V0 b s _ _ _).trans (h2 _ _))
  by_cases c1 : j.val - 32 < 32
  · rw [if_neg (by omega), if_pos (by omega)] at hh
    rw [← hh]
    exact (dif_neg c0).trans ((dif_pos c1).trans ((seg1 V0 b s _ _ _).trans (h3 _ _)))
  by_cases c2 : j.val - 32 - 32 < 16
  · rw [if_neg (by omega), if_neg (by omega), if_pos (by omega), show j.val - 64 = j.val - 32 - 32 by omega] at hh
    rw [← hh]
    exact (dif_neg c0).trans ((dif_neg c1).trans ((dif_pos c2).trans ((seg2 V0 b s _ _ _).trans (h4 _ _))))
  by_cases c3 : j.val - 32 - 32 - 16 < 16
  · rw [if_neg (by omega), if_neg (by omega), if_neg (by omega), if_pos (by omega), show j.val - 80 = j.val - 32 - 32 - 16 by omega] at hh
    rw [← hh]
    exact (dif_neg c0).trans ((dif_neg c1).trans ((dif_neg c2).trans ((dif_pos c3).trans ((seg3 V0 b s _ _ _).trans (h5 _ _)))))
  by_cases c4 : j.val - 32 - 32 - 16 - 16 < 16
  · rw [if_neg (by omega), if_neg (by omega), if_neg (by omega), if_neg (by omega), if_pos (by omega), show j.val - 96 = j.val - 32 - 32 - 16 - 16 by omega] at hh
    rw [← hh]
    exact (dif_neg c0).trans ((dif_neg c1).trans ((dif_neg c2).trans ((dif_neg c3).trans ((dif_pos c4).trans ((seg4 V0 b s _ _ _).trans (h6 _ _))))))
  by_cases c5 : j.val - 32 - 32 - 16 - 16 - 16 < 32
  · rw [if_neg (by omega), if_neg (by omega), if_neg (by omega), if_neg (by omega), if_neg (by omega), if_pos (by omega)] at hh
    refine (dif_neg c0).trans ((dif_neg c1).trans ((dif_neg c2).trans ((dif_neg c3).trans ((dif_neg c4).trans ((dif_pos c5).trans ?_)))))
    rw [← hh]
    unfold kanaR
    rw [EReal.coe_add, ← coe_sum]
    simp only [EReal.coe_mul]
    refine congrArg₂ (· + ·) (Finset.sum_congr rfl fun x _ => congrArg₂ (· * ·) ?_ ((h8 _ _).trans ?_)) ((h9 _).trans ?_)
    · simp only [mask_apply]
      classical
      exact pooled (fun k => 1 ≤ ((V0 (Proc.devRef .tc main_arg1) : Vec Ideal S1024x50x8 .i32) (ix3 b s k)).toInt) _ (KE x.val)
        (fun k hk => (rseg V0 b s k x _ _ hk).trans (h7 x)) _ one_word
    · rw [show j.val - 112 = j.val - 32 - 32 - 16 - 16 - 16 by omega]
    · rw [show j.val - 112 = j.val - 32 - 32 - 16 - 16 - 16 by omega]
  · rw [if_neg (by omega), if_neg (by omega), if_neg (by omega), if_neg (by omega), if_neg (by omega), if_neg (by omega)] at hh
    refine (dif_neg c0).trans ((dif_neg c1).trans ((dif_neg c2).trans ((dif_neg c3).trans ((dif_neg c4).trans ((dif_neg c5).trans ?_)))))
    rw [← hh]
    rw [EReal.coe_add, ← coe_sum]
    simp only [EReal.coe_mul]
    refine congrArg₂ (· + ·) (Finset.sum_congr rfl fun x _ => congrArg₂ (· * ·) (hx b s x) ((h10 _ x).trans ?_)) ((h11 _).trans ?_)
    · rw [show j.val - 144 = j.val - 32 - 32 - 16 - 16 - 16 - 32 by omega]
    · rw [show j.val - 144 = j.val - 32 - 32 - 16 - 16 - 16 - 32 by omega]

end Cert.ReferenceIdeal.Value

end
-- ==== Proof.Pre.lean ====
/- The precondition read off: every constrained element is a real number. -/
module

public import proofs.«01_k».proof.Defs
public import Idealize.ShloMosaic.Lib.Pointwise
public import Idealize.ShloMosaic.Lib.ReduceAll

@[expose] public section

set_option maxRecDepth 16384

noncomputable section

namespace Cert.Pre_finite

open Idealize.ShloMosaic Idealize.ShloMosaic.TcCoe Idealize.ShloMosaic.Tactic

/-- The shape conditions of the precondition's operations. -/
theorem facts : Facts :=
  ⟨by decide,
    by decide,
    by decide,
    by decide,
    by decide,
    by decide,
    by decide,
    by decide,
    by decide,
    by decide,
    by decide,
    by decide,
    by decide,
    by decide,
    by decide,
    by decide,
    by decide,
    by decide,
    by decide,
    by decide,
    by decide,
    by decide,
    by decide,
    by decide,
    by decide,
    by decide,
    by decide⟩

/-- The shape conditions, for the definitions that take them. -/
local instance : Facts := facts

/-- The word of infinity is infinity. -/
theorem inf_word : (Ideal.ofBits .f32 0x7F800000#32 : EReal) = ⊤ := by
  simp [Ideal.ofBits, Ideal.ieee]

/-- A value whose magnitude is below infinity is a real number. -/
theorem real_of_lt (x : EReal) (h : max x (-x) < ⊤) : ∃ r : ℝ, x = (r : EReal) := by
  induction x using EReal.rec with
  | bot => simp at h
  | coe r => exact ⟨r, rfl⟩
  | top => simp at h

/-- One conjunct: when the comparison of every magnitude with infinity folds to one, every element is a real number. -/
theorem all_real {S : Shape} {axes : List (Fin S.rank)} (a : Vec Ideal S .f32) (z : S_.BroadcastsInDim S (![] : Fin 0 → Fin S.rank))
    (hr : S.ReducesTo axes S_) (hu : 0 < S_.numel)
    (h : Host.reduce IntOp.andi (cmpf (F := Ideal) (φ := .f32) .olt (Host.absf a) (broadcastInDim S ![] z (constant (F := Ideal) S_ .f32 0x7F800000#32))) (constantI S_ 1 1#1) hr hu
      (Shape.Idx.first hu) = 1#1) (i : S.Idx) : ∃ r : ℝ, a i = (r : EReal) := by
  have e := Host.reduce_andi_all _ _ hr hu _ h i
  refine real_of_lt _ ?_
  have e' : Ideal.cmp .olt (max (a i) (-(a i))) (Ideal.ofBits .f32 0x7F800000#32) = 1#1 := e
  rw [inf_word] at e'
  by_contra hc
  simp [Ideal.cmp, hc] at e'

/-- Two bits whose conjunction is one are one. -/
theorem and_one (x y : BitVec 1) (h : IntOp.andi x y = 1#1) : x = 1#1 ∧ y = 1#1 := by
  revert h
  revert x y
  decide

/-- Every element of an array is a real number. -/
abbrev Reals {S : Shape} (a : Vec Ideal S .f32) : Prop := ∀ i : S.Idx, ∃ r : ℝ, a i = (r : EReal)

set_option maxHeartbeats 2000000 in
/-- What the precondition says: the continuous columns of the first array, the second row of the reading embedding and every
    constrained array are real numbers. -/
theorem real_args (a0 : Vec Ideal S1024x50x11 .f32) (a1 : Vec Ideal S1024x50x8 .i32) (a2 : Vec Ideal S15x32 .f32) (a3 : Vec Ideal S21x32 .f32)
    (a4 : Vec Ideal S11x16 .f32) (a5 : Vec Ideal S9x16 .f32) (a6 : Vec Ideal S10x16 .f32) (a7 : Vec Ideal S2x32 .f32) (a8 : Vec Ideal S32x32 .f32)
    (a9 : Vec Ideal S32 .f32) (a10 : Vec Ideal S32x6 .f32) (a11 : Vec Ideal S32 .f32) (a12 : Vec Ideal S176 .f32) (a13 : Vec Ideal S176 .f32)
    (a14 : Vec Ideal S512x176 .f32) (a15 : Vec Ideal S512 .f32)
    (h : fn (F := Ideal) a0 a1 a2 a3 a4 a5 a6 a7 a8 a9 a10 a11 a12 a13 a14 a15 = fun _ => 1#1) :
    (∀ (b : Fin 1024) (s : Fin 50) (k : Fin 6), ∃ r : ℝ, a0 (ix3 b s ⟨5 + k.val, by omega⟩) = (r : EReal)) ∧
    Reals a2 ∧ Reals a3 ∧ Reals a4 ∧ Reals a5 ∧ Reals a6 ∧ (∀ p : Fin 32, ∃ r : ℝ, a7 (ix2 1 p) = (r : EReal)) ∧
    Reals a8 ∧ Reals a9 ∧ Reals a10 ∧ Reals a11 ∧ Reals a12 ∧ Reals a14 := by
  have g := congrFun h (Shape.Idx.first Facts.h_S_)
  simp only [fn, fn_part1, fn_part2, fn_part3] at g
  obtain ⟨g, e14⟩ := and_one _ _ g
  obtain ⟨g, e12⟩ := and_one _ _ g
  obtain ⟨g, e11⟩ := and_one _ _ g
  obtain ⟨g, e10⟩ := and_one _ _ g
  obtain ⟨g, e9⟩ := and_one _ _ g
  obtain ⟨g, e8⟩ := and_one _ _ g
  obtain ⟨g, e7⟩ := and_one _ _ g
  obtain ⟨g, e6⟩ := and_one _ _ g
  obtain ⟨g, e5⟩ := and_one _ _ g
  obtain ⟨g, e4⟩ := and_one _ _ g
  obtain ⟨g, e3⟩ := and_one _ _ g
  obtain ⟨g, e2⟩ := and_one _ _ g
  have r0 := all_real _ _ _ _ g
  have r7 := all_real _ _ _ _ e7
  refine ⟨fun b s k => ?_, all_real _ _ _ _ e2, all_real _ _ _ _ e3, all_real _ _ _ _ e4, all_real _ _ _ _ e5, all_real _ _ _ _ e6, ?_, all_real _ _ _ _ e8, all_real _ _ _ _ e9, all_real _ _ _ _ e10, all_real _ _ _ _ e11, all_real _ _ _ _ e12, all_real _ _ _ _ e14⟩
  · obtain ⟨r, hr⟩ := r0 (ix3 b s k)
    refine ⟨r, Eq.trans (congrArg a0 ?_) hr⟩
    funext d
    apply Fin.ext
    fin_cases d <;> simp [ix3, ValueIdx.ix3]
  · intro p
    obtain ⟨r, hr⟩ := r7 (ix2 0 p)
    refine ⟨r, Eq.trans (congrArg a7 ?_) hr⟩
    funext d
    apply Fin.ext
    fin_cases d <;> simp [ix2, ValueIdx.ix2]

end Cert.Pre_finite

end
-- ==== Proof.Algebraic.lean ====
/- The two programs' results agree: the last claim of the certificate. -/
module

public import proofs.«01_k».proof.Defs
public import proofs.«01_k».proof.Proof.KernelRun
public import proofs.«01_k».proof.Proof.KernelRow
public import proofs.«01_k».proof.Proof.RefVal
public import proofs.«01_k».proof.Proof.Pre

@[expose] public section

set_option maxRecDepth 16384

noncomputable section

namespace Cert.Proof

open Idealize.ShloMosaic Idealize.ShloMosaic.TcCoe Idealize.ShloMosaic.Tactic Idealize.SL.Sem
open Cert.RowMath Cert.Words
open scoped BigOperators

/-- A matrix of real numbers, read by natural-number indices. -/
theorem reals2 {R C : ℕ} (a : Vec Ideal (⟨2, ![R, C]⟩ : Shape) .f32) (h : ∀ l j, ∃ r : ℝ, a (ix2 l j) = (r : EReal)) :
    ∃ P : ℕ → ℕ → ℝ, ∀ l j, a (ix2 l j) = ((P l.val j.val : ℝ) : EReal) := by
  choose f hf using h
  exact ⟨fun l j => if hl : l < R then if hj : j < C then f ⟨l, hl⟩ ⟨j, hj⟩ else 0 else 0,
    fun l j => by rw [hf]; simp⟩

/-- A vector of real numbers, read by natural-number indices. -/
theorem reals1 {N : ℕ} (a : Fin N → EReal) (h : ∀ j, ∃ r : ℝ, a j = (r : EReal)) :
    ∃ P : ℕ → ℝ, ∀ j, a j = ((P j.val : ℝ) : EReal) := by
  choose f hf using h
  exact ⟨fun j => if hj : j < N then f ⟨j, hj⟩ else 0, fun j => by rw [hf]; simp⟩

/-- The reading embedding's row of the reference is the kernel's choice between the two precomputed rows. -/
theorem kana_choice (V0 : Valuation Cert.ReferenceIdeal.τ Cert.ReferenceIdeal.sig (Elt Ideal)) (KP : ℕ → ℕ → ℝ) (KE kb : ℕ → ℝ)
    (b : Fin 1024) (s : Fin 50) (rs : Fin 8 → BitVec 32)
    (hrs : ∀ k, (V0 (Proc.devRef .tc Cert.ReferenceIdeal.main_arg1) : Vec Ideal Cert.ReferenceIdeal.S1024x50x8 .i32) (ix3 b s k) = rs k) (q : ℕ) :
    Cert.ReferenceIdeal.Value.kanaR V0 KP KE kb b s q
      = if Cert.KernelIdeal.Gen.present rs = 0 then kb q else Cert.KernelIdeal.Gen.kanaRow KP KE kb q := by
  classical
  unfold Cert.ReferenceIdeal.Value.kanaR Cert.KernelIdeal.Gen.present Cert.KernelIdeal.Gen.kanaRow
  simp only [hrs]
  by_cases h : ∃ k, 1 ≤ (rs k).toInt
  · simp [h]
  · simp [h]

open Cert.Pre_finite in
/-- At equal arguments satisfying the precondition, the kernel's result and the reference's are the same value at every index. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (V0 : Valuation Cert.ReferenceIdeal.τ Cert.ReferenceIdeal.sig (Elt Ideal))
    (hpre : @Cert.Pre_KernelIdeal_finite Cert.Pre_finite.facts m)
    (e0 : (V0 (Proc.devRef .tc Cert.ReferenceIdeal.main_arg0) : Vec Ideal Cert.ReferenceIdeal.S1024x50x11 .f32) = (m ((c : Thread Cert.KernelIdeal.nD Cert.KernelIdeal.τ).loc Cert.KernelIdeal.main_arg0) : Vec Ideal Cert.KernelIdeal.S1024x50x11 .f32))
    (e1 : (V0 (Proc.devRef .tc Cert.ReferenceIdeal.main_arg1) : Vec Ideal Cert.ReferenceIdeal.S1024x50x8 .i32) = (m ((c : Thread Cert.KernelIdeal.nD Cert.KernelIdeal.τ).loc Cert.KernelIdeal.main_arg1) : Vec Ideal Cert.KernelIdeal.S1024x50x8 .i32))
    (e2 : (V0 (Proc.devRef .tc Cert.ReferenceIdeal.main_arg2) : Vec Ideal Cert.ReferenceIdeal.S15x32 .f32) = (m ((c : Thread Cert.KernelIdeal.nD Cert.KernelIdeal.τ).loc Cert.KernelIdeal.main_arg2) : Vec Ideal Cert.KernelIdeal.S15x32 .f32))
    (e3 : (V0 (Proc.devRef .tc Cert.ReferenceIdeal.main_arg3) : Vec Ideal Cert.ReferenceIdeal.S21x32 .f32) = (m ((c : Thread Cert.KernelIdeal.nD Cert.KernelIdeal.τ).loc Cert.KernelIdeal.main_arg3) : Vec Ideal Cert.KernelIdeal.S21x32 .f32))
    (e4 : (V0 (Proc.devRef .tc Cert.ReferenceIdeal.main_arg4) : Vec Ideal Cert.ReferenceIdeal.S11x16 .f32) = (m ((c : Thread Cert.KernelIdeal.nD Cert.KernelIdeal.τ).loc Cert.KernelIdeal.main_arg4) : Vec Ideal Cert.KernelIdeal.S11x16 .f32))
    (e5 : (V0 (Proc.devRef .tc Cert.ReferenceIdeal.main_arg5) : Vec Ideal Cert.ReferenceIdeal.S9x16 .f32) = (m ((c : Thread Cert.KernelIdeal.nD Cert.KernelIdeal.τ).loc Cert.KernelIdeal.main_arg5) : Vec Ideal Cert.KernelIdeal.S9x16 .f32))
    (e6 : (V0 (Proc.devRef .tc Cert.ReferenceIdeal.main_arg6) : Vec Ideal Cert.ReferenceIdeal.S10x16 .f32) = (m ((c : Thread Cert.KernelIdeal.nD Cert.KernelIdeal.τ).loc Cert.KernelIdeal.main_arg6) : Vec Ideal Cert.KernelIdeal.S10x16 .f32))
    (e7 : (V0 (Proc.devRef .tc Cert.ReferenceIdeal.main_arg7) : Vec Ideal Cert.ReferenceIdeal.S2x32 .f32) = (m ((c : Thread Cert.KernelIdeal.nD Cert.KernelIdeal.τ).loc Cert.KernelIdeal.main_arg7) : Vec Ideal Cert.KernelIdeal.S2x32 .f32))
    (e8 : (V0 (Proc.devRef .tc Cert.ReferenceIdeal.main_arg8) : Vec Ideal Cert.ReferenceIdeal.S32x32 .f32) = (m ((c : Thread Cert.KernelIdeal.nD Cert.KernelIdeal.τ).loc Cert.KernelIdeal.main_arg8) : Vec Ideal Cert.KernelIdeal.S32x32 .f32))
    (e9 : (V0 (Proc.devRef .tc Cert.ReferenceIdeal.main_arg9) : Vec Ideal Cert.ReferenceIdeal.S32 .f32) = (m ((c : Thread Cert.KernelIdeal.nD Cert.KernelIdeal.τ).loc Cert.KernelIdeal.main_arg9) : Vec Ideal Cert.KernelIdeal.S32 .f32))
    (e10 : (V0 (Proc.devRef .tc Cert.ReferenceIdeal.main_arg10) : Vec Ideal Cert.ReferenceIdeal.S32x6 .f32) = (m ((c : Thread Cert.KernelIdeal.nD Cert.KernelIdeal.τ).loc Cert.KernelIdeal.main_arg10) : Vec Ideal Cert.KernelIdeal.S32x6 .f32))
    (e11 : (V0 (Proc.devRef .tc Cert.ReferenceIdeal.main_arg11) : Vec Ideal Cert.ReferenceIdeal.S32 .f32) = (m ((c : Thread Cert.KernelIdeal.nD Cert.KernelIdeal.τ).loc Cert.KernelIdeal.main_arg11) : Vec Ideal Cert.KernelIdeal.S32 .f32))
    (e12 : (V0 (Proc.devRef .tc Cert.ReferenceIdeal.main_arg12) : Vec Ideal Cert.ReferenceIdeal.S176 .f32) = (m ((c : Thread Cert.KernelIdeal.nD Cert.KernelIdeal.τ).loc Cert.KernelIdeal.main_arg12) : Vec Ideal Cert.KernelIdeal.S176 .f32))
    (e13 : (V0 (Proc.devRef .tc Cert.ReferenceIdeal.main_arg13) : Vec Ideal Cert.ReferenceIdeal.S176 .f32) = (m ((c : Thread Cert.KernelIdeal.nD Cert.KernelIdeal.τ).loc Cert.KernelIdeal.main_arg13) : Vec Ideal Cert.KernelIdeal.S176 .f32))
    (e14 : (V0 (Proc.devRef .tc Cert.ReferenceIdeal.main_arg14) : Vec Ideal Cert.ReferenceIdeal.S512x176 .f32) = (m ((c : Thread Cert.KernelIdeal.nD Cert.KernelIdeal.τ).loc Cert.KernelIdeal.main_arg14) : Vec Ideal Cert.KernelIdeal.S512x176 .f32))
    (e15 : (V0 (Proc.devRef .tc Cert.ReferenceIdeal.main_arg15) : Vec Ideal Cert.ReferenceIdeal.S512 .f32) = (m ((c : Thread Cert.KernelIdeal.nD Cert.KernelIdeal.τ).loc Cert.KernelIdeal.main_arg15) : Vec Ideal Cert.KernelIdeal.S512 .f32))
    (b : Fin 1024) (s : Fin 50) (o : Fin 512) :
    Cert.ReferenceIdeal.Value.lnE (fun j => (Cert.ReferenceIdeal.Value.res_main_v46 V0 : Vec Ideal Cert.ReferenceIdeal.S1024x50x176 .f32) (ix3 b s j))
          (fun j => (V0 (Proc.devRef .tc Cert.ReferenceIdeal.main_arg12) : Vec Ideal Cert.ReferenceIdeal.S176 .f32) (ix1 j))
          (fun j => (V0 (Proc.devRef .tc Cert.ReferenceIdeal.main_arg13) : Vec Ideal Cert.ReferenceIdeal.S176 .f32) (ix1 j))
          (fun j => (V0 (Proc.devRef .tc Cert.ReferenceIdeal.main_arg14) : Vec Ideal Cert.ReferenceIdeal.S512x176 .f32) (ix2 o j))
          ((V0 (Proc.devRef .tc Cert.ReferenceIdeal.main_arg15) : Vec Ideal Cert.ReferenceIdeal.S512 .f32) (ix1 o))
          (Ideal.ofBits .f32 0x43300000#32) (Ideal.ofBits .f32 0x3727C5AC#32)
      = ((Cert.KernelIdeal.Gen.dat1 (Cert.KernelIdeal.Gen.V2 m ρ) c).arrAt 11 Cert.KernelIdeal.cfg1.N : Vec Ideal Cert.KernelIdeal.S1024x50x512 .f32) (ix3 b s o) := by
  obtain ⟨r0, r2, r3, r4, r5, r6, r7, r8, r9, r10, r11, r12, r14⟩ := real_args _ _ _ _ _ _ _ _ _ _ _ _ _ _ _ _ (hpre c)
  obtain ⟨P2, h2⟩ := reals2 _ fun l j => r2 (ix2 l j)
  obtain ⟨P3, h3⟩ := reals2 _ fun l j => r3 (ix2 l j)
  obtain ⟨P4, h4⟩ := reals2 _ fun l j => r4 (ix2 l j)
  obtain ⟨P5, h5⟩ := reals2 _ fun l j => r5 (ix2 l j)
  obtain ⟨P6, h6⟩ := reals2 _ fun l j => r6 (ix2 l j)
  obtain ⟨KE, h7⟩ := reals1 _ r7
  obtain ⟨KP, h8⟩ := reals2 _ fun l j => r8 (ix2 l j)
  obtain ⟨kb, h9⟩ := reals1 _ fun j => r9 (ix1 j)
  obtain ⟨Q, h10⟩ := reals2 _ fun l j => r10 (ix2 l j)
  obtain ⟨qb, h11⟩ := reals1 _ fun j => r11 (ix1 j)
  obtain ⟨g, h12⟩ := reals1 _ fun j => r12 (ix1 j)
  obtain ⟨W, h14⟩ := reals2 _ fun l j => r14 (ix2 l j)
  obtain ⟨xc, hx⟩ : ∃ xc : Fin 1024 → Fin 50 → ℕ → ℝ, ∀ b s (k : Fin 6), (m ((c : Thread Cert.KernelIdeal.nD Cert.KernelIdeal.τ).loc Cert.KernelIdeal.main_arg0) : Vec Ideal Cert.KernelIdeal.S1024x50x11 .f32) (ix3 b s ⟨5 + k.val, by omega⟩) = ((xc b s k.val : ℝ) : EReal) := by
    choose f hf using fun b s => reals1 _ (r0 b s)
    exact ⟨f, hf⟩
  have hrow := Cert.ReferenceIdeal.Value.row_apply V0 P2 P3 P4 P5 P6 KP Q KE kb qb xc
    (fun b s k => (congrFun e0 (ix3 b s ⟨5 + k.val, by omega⟩)).trans (hx b s k))
    (fun l j => (congrFun e2 (ix2 l j)).trans (h2 l j)) (fun l j => (congrFun e3 (ix2 l j)).trans (h3 l j))
    (fun l j => (congrFun e4 (ix2 l j)).trans (h4 l j)) (fun l j => (congrFun e5 (ix2 l j)).trans (h5 l j))
    (fun l j => (congrFun e6 (ix2 l j)).trans (h6 l j)) (fun p => (congrFun e7 (ix2 1 p)).trans (h7 p))
    (fun l j => (congrFun e8 (ix2 l j)).trans (h8 l j)) (fun j => (congrFun e9 (ix1 j)).trans (h9 j))
    (fun l j => (congrFun e10 (ix2 l j)).trans (h10 l j)) (fun j => (congrFun e11 (ix1 j)).trans (h11 j)) b s
  refine Eq.trans ?_ (Cert.KernelIdeal.Gen.kernel_row m ρ c P2 P3 P4 P5 P6 KP Q KE kb qb g W xc
    (Cert.ReferenceIdeal.Value.kanaR V0 KP KE kb b s) hx h2 h3 h4 h5 h6 h7 h8 h9 h10 h11 h12 h14 b s o
    (kana_choice V0 KP KE kb b s _ fun k => congrFun e1 (ix3 b s k))).symm
  have hids : ∀ (hi : BitVec 32) (k : Fin 11), Cert.ReferenceIdeal.Value.idR V0 hi b s k
      = Cert.KernelIdeal.Gen.idN hi (fun x => (m ((c : Thread Cert.KernelIdeal.nD Cert.KernelIdeal.τ).loc Cert.KernelIdeal.main_arg0) : Vec Ideal Cert.KernelIdeal.S1024x50x11 .f32) (ix3 b s x)) k := fun hi k =>
    congrArg (fun v => clipN hi (FloatOps.fptosi (F := Ideal) (φ := .f32) 32 v)) (congrFun e0 (ix3 b s k))
  simp only [hrow, hids]
  rw [show (fun j : Fin 176 => (V0 (Proc.devRef .tc Cert.ReferenceIdeal.main_arg12) : Vec Ideal Cert.ReferenceIdeal.S176 .f32) (ix1 j))
      = fun j => ((g j.val : ℝ) : EReal) from funext fun j => (congrFun e12 (ix1 j)).trans (h12 j),
    show (fun j : Fin 176 => (V0 (Proc.devRef .tc Cert.ReferenceIdeal.main_arg14) : Vec Ideal Cert.ReferenceIdeal.S512x176 .f32) (ix2 o j))
      = fun j => ((W o.val j.val : ℝ) : EReal) from funext fun j => (congrFun e14 (ix2 o j)).trans (h14 o j), e13, e15]

/-- The result claim: at equal arguments satisfying the precondition both programs end with the same result. -/
theorem algebraic : @Cert.algebraic_KernelIdeal_ReferenceIdeal_pre_finite Cert.KernelIdeal.Gen.facts Cert.ReferenceIdeal.Gen.facts
    Cert.Pre_finite.facts := by
  intro m ρ m' ρ' hpre hagree
  refine ⟨_, Cert.KernelIdeal.Gen.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  funext i
  obtain ⟨b, s, o, rfl⟩ : ∃ (b : Fin 1024) (s : Fin 50) (o : Fin 512), i = ix3 b s o :=
    ⟨i 0, i 1, i 2, by funext d; fin_cases d <;> rfl⟩
  exact (Cert.ReferenceIdeal.Value.out_apply _ b s o).trans
    (result_eq m ρ c _ hpre e0 e1 e2 e3 e4 e5 e6 e7 e8 e9 e10 e11 e12 e13 e14 e15 b s o)

end Cert.Proof

end
-- ==== Proof.lean ====
/- Assembles the proof of this certificate's claim. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates, leaves its arguments unchanged and ends with every semaphore at zero. -/
theorem reference_frame : @Cert.quiescent_ReferenceIdeal Cert.ReferenceIdeal.Gen.facts := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The one named constant of the idealised kernel, the reciprocal of the row length, is admissible at its site. -/
theorem constant_preserved : Cert.preserves_Kernel_KernelIdeal :=
  IdealRules.named_const.statement Cert.KernelIdeal.κ "inv_dim" .f32 0x3BBA2E8C#32 ((1 / 176 : ℝ) : EReal) rfl

/-- The certificate's claim. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    constant_preserved, algebraic⟩

end Cert.Proof

end
